-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x32 : Shape := ⟨2, ![10000, 32]⟩
abbrev S1x2x160000 : Shape := ⟨3, ![1, 2, 160000]⟩
abbrev S1x10000x3 : Shape := ⟨3, ![1, 10000, 3]⟩
abbrev S32x64 : Shape := ⟨2, ![32, 64]⟩
abbrev S64 : Shape := ⟨1, ![64]⟩
abbrev S4x64 : Shape := ⟨2, ![4, 64]⟩
abbrev S64x64 : Shape := ⟨2, ![64, 64]⟩
abbrev S64x67 : Shape := ⟨2, ![64, 67]⟩
abbrev S67 : Shape := ⟨1, ![67]⟩
abbrev S1x64 : Shape := ⟨2, ![1, 64]⟩
abbrev S64x4 : Shape := ⟨2, ![64, 4]⟩
abbrev S4 : Shape := ⟨1, ![4]⟩
abbrev S_ : Shape := ⟨0, ![]⟩

class Facts : Prop where
  bcast_S_S10000x32 : S_.BroadcastsInDim S10000x32 (![] : Fin 0 → Fin S10000x32.rank)
  bcast_S_S1x10000x3 : S_.BroadcastsInDim S1x10000x3 (![] : Fin 0 → Fin S1x10000x3.rank)
  bcast_S_S32x64 : S_.BroadcastsInDim S32x64 (![] : Fin 0 → Fin S32x64.rank)
  bcast_S_S64 : S_.BroadcastsInDim S64 (![] : Fin 0 → Fin S64.rank)
  bcast_S_S4x64 : S_.BroadcastsInDim S4x64 (![] : Fin 0 → Fin S4x64.rank)
  bcast_S_S64x64 : S_.BroadcastsInDim S64x64 (![] : Fin 0 → Fin S64x64.rank)
  bcast_S_S64x67 : S_.BroadcastsInDim S64x67 (![] : Fin 0 → Fin S64x67.rank)

variable [Facts]

def fn_part1 {F : FTy → Type} [FloatOps F] (main_arg8 : FVec F S64x64 .f32) (main_arg9 : FVec F S64 .f32) (main_arg10 : FVec F S64x67 .f32) (main_v2 : IVec S10000x32 1) (main_v5 : IVec S1x10000x3 1) (main_v8 : IVec S32x64 1) (main_v11 : IVec S64 1) (main_v14 : IVec S4x64 1) (main_v17 : IVec S64 1) : IVec S10000x32 1 × IVec S1x10000x3 1 × IVec S32x64 1 × IVec S64 1 × IVec S4x64 1 × IVec S64 1 × IVec S64x64 1 × IVec S64 1 × IVec S64x67 1 :=
  let main_v18 : FVec F S64x64 .f32 := Host.absf main_arg8
  let main_cst_5 : FVec F S_ .f32 := constant S_ .f32 0x7F800000#32
  let main_v19 : FVec F S64x64 .f32 := broadcastInDim S64x64 ![] bcast_S_S64x64 main_cst_5
  let main_v20 : IVec S64x64 1 := cmpf .olt main_v18 main_v19
  let main_v21 : FVec F S64 .f32 := Host.absf main_arg9
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64x67 .f32 := Host.absf main_arg10
  let main_cst_7 : FVec F S_ .f32 := constant S_ .f32 0x7F800000#32
  let main_v25 : FVec F S64x67 .f32 := broadcastInDim S64x67 ![] bcast_S_S64x67 main_cst_7
  let main_v26 : IVec S64x67 1 := cmpf .olt main_v24 main_v25
  (main_v2, main_v5, main_v8, main_v11, main_v14, main_v17, main_v20, main_v23, main_v26)

def fn {F : FTy → Type} [FloatOps F] (main_arg0 : FVec F S10000x32 .f32) (main_arg1 : IVec S1x2x160000 32) (main_arg2 : FVec F S1x10000x3 .f32) (main_arg3 : FVec F S1x10000x3 .f32) (main_arg4 : FVec F S32x64 .f32) (main_arg5 : FVec F S64 .f32) (main_arg6 : FVec F S4x64 .f32) (main_arg7 : FVec F S64 .f32) (main_arg8 : FVec F S64x64 .f32) (main_arg9 : FVec F S64 .f32) (main_arg10 : FVec F S64x67 .f32) (main_arg11 : FVec F S67 .f32) (main_arg12 : FVec F S1x64 .f32) (main_arg13 : FVec F S64x4 .f32) (main_arg14 : FVec F S4 .f32) : IVec S10000x32 1 × IVec S1x10000x3 1 × IVec S32x64 1 × IVec S64 1 × IVec S4x64 1 × IVec S64 1 × IVec S64x64 1 × IVec S64 1 × IVec S64x67 1 :=
  let main_v0 : FVec F S10000x32 .f32 := Host.absf main_arg0
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_v3 : FVec F S1x10000x3 .f32 := Host.absf main_arg2
  let main_cst_0 : FVec F S_ .f32 := constant S_ .f32 0x7F800000#32
  let main_v4 : FVec F S1x10000x3 .f32 := broadcastInDim S1x10000x3 ![] bcast_S_S1x10000x3 main_cst_0
  let main_v5 : IVec S1x10000x3 1 := cmpf .olt main_v3 main_v4
  let main_v6 : FVec F S32x64 .f32 := Host.absf main_arg4
  let main_cst_1 : FVec F S_ .f32 := constant S_ .f32 0x7F800000#32
  let main_v7 : FVec F S32x64 .f32 := broadcastInDim S32x64 ![] bcast_S_S32x64 main_cst_1
  let main_v8 : IVec S32x64 1 := cmpf .olt main_v6 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S4x64 .f32 := Host.absf main_arg6
  let main_cst_3 : FVec F S_ .f32 := constant S_ .f32 0x7F800000#32
  let main_v13 : FVec F S4x64 .f32 := broadcastInDim S4x64 ![] bcast_S_S4x64 main_cst_3
  let main_v14 : IVec S4x64 1 := cmpf .olt main_v12 main_v13
  let main_v15 : FVec F S64 .f32 := Host.absf main_arg7
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg8 main_arg9 main_arg10 main_v2 main_v5 main_v8 main_v11 main_v14 main_v17
-- ==== Kernel.lean ====
abbrev S10000x32 : Shape := ⟨2, ![10000, 32]⟩
abbrev S1x2x160000 : Shape := ⟨3, ![1, 2, 160000]⟩
abbrev S1x10000x3 : Shape := ⟨3, ![1, 10000, 3]⟩
abbrev S32x64 : Shape := ⟨2, ![32, 64]⟩
abbrev S64 : Shape := ⟨1, ![64]⟩
abbrev S4x64 : Shape := ⟨2, ![4, 64]⟩
abbrev S64x64 : Shape := ⟨2, ![64, 64]⟩
abbrev S64x67 : Shape := ⟨2, ![64, 67]⟩
abbrev S67 : Shape := ⟨1, ![67]⟩
abbrev S1x64 : Shape := ⟨2, ![1, 64]⟩
abbrev S64x4 : Shape := ⟨2, ![64, 4]⟩
abbrev S4 : Shape := ⟨1, ![4]⟩
abbrev S10000x3 : Shape := ⟨2, ![10000, 3]⟩
abbrev S2x160000 : Shape := ⟨2, ![2, 160000]⟩
abbrev S1x160000 : Shape := ⟨2, ![1, 160000]⟩
abbrev S160000 : Shape := ⟨1, ![160000]⟩
abbrev S64x1 : Shape := ⟨2, ![64, 1]⟩
abbrev S_ : Shape := ⟨0, ![]⟩
abbrev S16x256 : Shape := ⟨2, ![16, 256]⟩
abbrev S64x256 : Shape := ⟨2, ![64, 256]⟩
abbrev S256x256 : Shape := ⟨2, ![256, 256]⟩
abbrev S256 : Shape := ⟨1, ![256]⟩
abbrev S1x256 : Shape := ⟨2, ![1, 256]⟩
abbrev S64x3 : Shape := ⟨2, ![64, 3]⟩
abbrev S3x64 : Shape := ⟨2, ![3, 64]⟩
abbrev S3 : Shape := ⟨1, ![3]⟩
abbrev S3x1 : Shape := ⟨2, ![3, 1]⟩
abbrev S10000x64 : Shape := ⟨2, ![10000, 64]⟩
abbrev S10000x1 : Shape := ⟨2, ![10000, 1]⟩
abbrev S2000x32 : Shape := ⟨2, ![2000, 32]⟩
abbrev S2000x3 : Shape := ⟨2, ![2000, 3]⟩
abbrev S2000x64 : Shape := ⟨2, ![2000, 64]⟩
abbrev S2000x1 : Shape := ⟨2, ![2000, 1]⟩
abbrev S160000x1 : Shape := ⟨2, ![160000, 1]⟩
abbrev S160000x3 : Shape := ⟨2, ![160000, 3]⟩
abbrev S160000x4 : Shape := ⟨2, ![160000, 4]⟩
abbrev S160000x64 : Shape := ⟨2, ![160000, 64]⟩
abbrev S2000x4 : Shape := ⟨2, ![2000, 4]⟩
abbrev S2000x256 : Shape := ⟨2, ![2000, 256]⟩
abbrev S2000 : Shape := ⟨1, ![2000]⟩
abbrev S1x4 : Shape := ⟨2, ![1, 4]⟩
abbrev S10000x4 : Shape := ⟨2, ![10000, 4]⟩

abbrev nBuf : Space → Nat
  | .hbm => 209
  | .vmem => 40
  | .smem => 0
  | _ => 0

abbrev hbmTy0_0 (i : Nat) : BufTy := match i % 128 with
  | 0 => ⟨S10000x32, .f32⟩
  | 1 => ⟨S1x2x160000, .i32⟩
  | 2 => ⟨S1x10000x3, .f32⟩
  | 3 => ⟨S1x10000x3, .f32⟩
  | 4 => ⟨S32x64, .f32⟩
  | 5 => ⟨S64, .f32⟩
  | 6 => ⟨S4x64, .f32⟩
  | 7 => ⟨S64, .f32⟩
  | 8 => ⟨S64x64, .f32⟩
  | 9 => ⟨S64, .f32⟩
  | 10 => ⟨S64x67, .f32⟩
  | 11 => ⟨S67, .f32⟩
  | 12 => ⟨S1x64, .f32⟩
  | 13 => ⟨S64x4, .f32⟩
  | 14 => ⟨S4, .f32⟩
  | 15 => ⟨S10000x3, .f32⟩
  | 16 => ⟨S2x160000, .i32⟩
  | 17 => ⟨S1x160000, .i32⟩
  | 18 => ⟨S160000, .i32⟩
  | 19 => ⟨S1x160000, .i32⟩
  | 20 => ⟨S160000, .i32⟩
  | 21 => ⟨S64, .f32⟩
  | 22 => ⟨S64x1, .f32⟩
  | 23 => ⟨S_, .f32⟩
  | 24 => ⟨S64x1, .f32⟩
  | 25 => ⟨S64x1, .f32⟩
  | 26 => ⟨S1x64, .f32⟩
  | 27 => ⟨S64, .f32⟩
  | 28 => ⟨S1x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S1x64, .f32⟩
  | 35 => ⟨S_, .f32⟩
  | 36 => ⟨S1x64, .f32⟩
  | 37 => ⟨S1x64, .f32⟩
  | 38 => ⟨S64x64, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S64x64, .f32⟩
  | 45 => ⟨S_, .f32⟩
  | 46 => ⟨S64, .f32⟩
  | 47 => ⟨S64, .f32⟩
  | 48 => ⟨S1x64, .f32⟩
  | 49 => ⟨S64x64, .f32⟩
  | 50 => ⟨S64x64, .f32⟩
  | 51 => ⟨S64x64, .f32⟩
  | 52 => ⟨S16x256, .f32⟩
  | 53 => ⟨S16x256, .f32⟩
  | 54 => ⟨S_, .f32⟩
  | 55 => ⟨S64x64, .f32⟩
  | 56 => ⟨S64x64, .f32⟩
  | 57 => ⟨S_, .f32⟩
  | 58 => ⟨S64x256, .f32⟩
  | 59 => ⟨S_, .f32⟩
  | 60 => ⟨S64x256, .f32⟩
  | 61 => ⟨S_, .f32⟩
  | 62 => ⟨S64x256, .f32⟩
  | 63 => ⟨S_, .f32⟩
  | 64 => ⟨S64x256, .f32⟩
  | 65 => ⟨S256x256, .f32⟩
  | 66 => ⟨S_, .f32⟩
  | 67 => ⟨S64, .f32⟩
  | 68 => ⟨S64, .f32⟩
  | 69 => ⟨S1x64, .f32⟩
  | 70 => ⟨S4x64, .f32⟩
  | 71 => ⟨S256, .f32⟩
  | 72 => ⟨S1x256, .f32⟩
  | 73 => ⟨S1x64, .f32⟩
  | 74 => ⟨S64x64, .f32⟩
  | 75 => ⟨S64x64, .f32⟩
  | 76 => ⟨S64x3, .f32⟩
  | 77 => ⟨S3x64, .f32⟩
  | 78 => ⟨S64, .f32⟩
  | 79 => ⟨S64x1, .f32⟩
  | 80 => ⟨S3, .f32⟩
  | 81 => ⟨S3x1, .f32⟩
  | 82 => ⟨S10000x64, .f32⟩
  | 83 => ⟨S10000x1, .f32⟩
  | 84 => ⟨S_, .i32⟩
  | 85 => ⟨S160000, .i32⟩
  | 86 => ⟨S160000, .i1⟩
  | 87 => ⟨S_, .i32⟩
  | 88 => ⟨S160000, .i32⟩
  | 89 => ⟨S160000, .i32⟩
  | 90 => ⟨S160000, .i32⟩
  | 91 => ⟨S160000x1, .i32⟩
  | 92 => ⟨S160000x3, .f32⟩
  | 93 => ⟨S_, .i32⟩
  | 94 => ⟨S160000, .i32⟩
  | 95 => ⟨S160000, .i1⟩
  | 96 => ⟨S_, .i32⟩
  | 97 => ⟨S160000, .i32⟩
  | 98 => ⟨S160000, .i32⟩
  | 99 => ⟨S160000, .i32⟩
  | 100 => ⟨S160000x1, .i32⟩
  | 101 => ⟨S160000x3, .f32⟩
  | 102 => ⟨S160000x3, .f32⟩
  | 103 => ⟨S160000x3, .f32⟩
  | 104 => ⟨S_, .f32⟩
  | 105 => ⟨S160000, .f32⟩
  | 106 => ⟨S_, .f32⟩
  | 107 => ⟨S160000, .f32⟩
  | 108 => ⟨S160000, .i1⟩
  | 109 => ⟨S_, .f32⟩
  | 110 => ⟨S_, .f32⟩
  | 111 => ⟨S160000, .f32⟩
  | 112 => ⟨S160000, .f32⟩
  | 113 => ⟨S160000, .f32⟩
  | 114 => ⟨S_, .f32⟩
  | 115 => ⟨S_, .f32⟩
  | 116 => ⟨S160000, .f32⟩
  | 117 => ⟨S160000, .f32⟩
  | 118 => ⟨S160000x1, .f32⟩
  | 119 => ⟨S160000, .f32⟩
  | 120 => ⟨S_, .f32⟩
  | 121 => ⟨S_, .f32⟩
  | 122 => ⟨S160000, .f32⟩
  | 123 => ⟨S160000, .f32⟩
  | 124 => ⟨S160000x1, .f32⟩
  | 125 => ⟨S160000, .f32⟩
  | 126 => ⟨S_, .f32⟩
  | 127 => ⟨S_, .f32⟩
  | _ => ⟨S10000x32, .f32⟩

abbrev hbmTy0_1 (i : Nat) : BufTy := match i % 128 with
  | 0 => ⟨S160000, .f32⟩
  | 1 => ⟨S160000, .f32⟩
  | 2 => ⟨S160000, .f32⟩
  | 3 => ⟨S160000x1, .f32⟩
  | 4 => ⟨S160000, .f32⟩
  | 5 => ⟨S_, .f32⟩
  | 6 => ⟨S_, .f32⟩
  | 7 => ⟨S160000, .f32⟩
  | 8 => ⟨S160000, .f32⟩
  | 9 => ⟨S160000, .f32⟩
  | 10 => ⟨S_, .f32⟩
  | 11 => ⟨S_, .f32⟩
  | 12 => ⟨S160000, .f32⟩
  | 13 => ⟨S160000, .f32⟩
  | 14 => ⟨S_, .f32⟩
  | 15 => ⟨S_, .f32⟩
  | 16 => ⟨S_, .f32⟩
  | 17 => ⟨S160000, .f32⟩
  | 18 => ⟨S160000, .f32⟩
  | 19 => ⟨S_, .f32⟩
  | 20 => ⟨S160000, .f32⟩
  | 21 => ⟨S160000, .f32⟩
  | 22 => ⟨S160000, .f32⟩
  | 23 => ⟨S_, .f32⟩
  | 24 => ⟨S_, .f32⟩
  | 25 => ⟨S160000, .f32⟩
  | 26 => ⟨S160000, .f32⟩
  | 27 => ⟨S_, .f32⟩
  | 28 => ⟨S_, .f32⟩
  | 29 => ⟨S160000, .f32⟩
  | 30 => ⟨S160000, .f32⟩
  | 31 => ⟨S_, .f32⟩
  | 32 => ⟨S160000, .f32⟩
  | 33 => ⟨S160000, .f32⟩
  | 34 => ⟨S_, .f32⟩
  | 35 => ⟨S160000, .f32⟩
  | 36 => ⟨S160000, .f32⟩
  | 37 => ⟨S_, .f32⟩
  | 38 => ⟨S160000, .f32⟩
  | 39 => ⟨S160000x1, .f32⟩
  | 40 => ⟨S160000x1, .f32⟩
  | 41 => ⟨S160000x1, .f32⟩
  | 42 => ⟨S160000x1, .f32⟩
  | 43 => ⟨S160000x4, .f32⟩
  | 44 => ⟨S3x64, .f32⟩
  | 45 => ⟨S_, .f32⟩
  | 46 => ⟨S3x64, .f32⟩
  | 47 => ⟨S3x64, .f32⟩
  | 48 => ⟨S_, .f32⟩
  | 49 => ⟨S1x64, .f32⟩
  | 50 => ⟨S4x64, .f32⟩
  | 51 => ⟨S_, .f32⟩
  | 52 => ⟨S64, .f32⟩
  | 53 => ⟨S64, .f32⟩
  | 54 => ⟨S1x64, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x64, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x1, .f32⟩
  | 73 => ⟨S160000x64, .f32⟩
  | 74 => ⟨S_, .f32⟩
  | 75 => ⟨S10000x64, .f32⟩
  | 76 => ⟨S160000x1, .i32⟩
  | 77 => ⟨S10000x64, .f32⟩
  | 78 => ⟨S64x64, .f32⟩
  | 79 => ⟨S1x4, .f32⟩
  | 80 => ⟨S10000x4, .f32⟩
  | _ => ⟨S10000x32, .f32⟩

abbrev hbmTy (i : Nat) : BufTy := match i / 128 with
  | 0 => hbmTy0_0 i
  | 1 => hbmTy0_1 i
  | _ => ⟨S10000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S2000x3, .f32⟩
  | .local _ .vmem, ⟨3, _⟩ => ⟨S2000x3, .f32⟩
  | .local _ .vmem, ⟨4, _⟩ => ⟨S32x64, .f32⟩
  | .local _ .vmem, ⟨5, _⟩ => ⟨S1x64, .f32⟩
  | .local _ .vmem, ⟨6, _⟩ => ⟨S64x64, .f32⟩
  | .local _ .vmem, ⟨7, _⟩ => ⟨S3x64, .f32⟩
  | .local _ .vmem, ⟨8, _⟩ => ⟨S64x1, .f32⟩
  | .local _ .vmem, ⟨9, _⟩ => ⟨S3x1, .f32⟩
  | .local _ .vmem, ⟨10, _⟩ => ⟨S2000x64, .f32⟩
  | .local _ .vmem, ⟨11, _⟩ => ⟨S2000x64, .f32⟩
  | .local _ .vmem, ⟨12, _⟩ => ⟨S2000x1, .f32⟩
  | .local _ .vmem, ⟨13, _⟩ => ⟨S2000x1, .f32⟩
  | .local _ .vmem, ⟨14, _⟩ => ⟨S2000x4, .f32⟩
  | .local _ .vmem, ⟨15, _⟩ => ⟨S2000x4, .f32⟩
  | .local _ .vmem, ⟨16, _⟩ => ⟨S2000x64, .f32⟩
  | .local _ .vmem, ⟨17, _⟩ => ⟨S2000x64, .f32⟩
  | .local _ .vmem, ⟨18, _⟩ => ⟨S2000x1, .f32⟩
  | .local _ .vmem, ⟨19, _⟩ => ⟨S2000x1, .f32⟩
  | .local _ .vmem, ⟨20, _⟩ => ⟨S4x64, .f32⟩
  | .local _ .vmem, ⟨21, _⟩ => ⟨S1x64, .f32⟩
  | .local _ .vmem, ⟨22, _⟩ => ⟨S16x256, .f32⟩
  | .local _ .vmem, ⟨23, _⟩ => ⟨S16x256, .f32⟩
  | .local _ .vmem, ⟨24, _⟩ => ⟨S256x256, .f32⟩
  | .local _ .vmem, ⟨25, _⟩ => ⟨S1x256, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x1, .f32⟩
  | .local _ .vmem, ⟨33, _⟩ => ⟨S2000x1, .f32⟩
  | .local _ .vmem, ⟨34, _⟩ => ⟨S64x64, .f32⟩
  | .local _ .vmem, ⟨35, _⟩ => ⟨S1x64, .f32⟩
  | .local _ .vmem, ⟨36, _⟩ => ⟨S64x4, .f32⟩
  | .local _ .vmem, ⟨37, _⟩ => ⟨S1x4, .f32⟩
  | .local _ .vmem, ⟨38, _⟩ => ⟨S2000x4, .f32⟩
  | .local _ .vmem, ⟨39, _⟩ => ⟨S2000x4, .f32⟩
  | _, _ => ⟨S10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v4 : Ref sig .tc := ⟨.hbm, 58, rfl⟩
abbrev main_call0_cst_0 : Ref sig .tc := ⟨.hbm, 59, rfl⟩
abbrev main_call0_v5 : Ref sig .tc := ⟨.hbm, 60, rfl⟩
abbrev main_call0_cst_1 : Ref sig .tc := ⟨.hbm, 61, rfl⟩
abbrev main_call0_v6 : Ref sig .tc := ⟨.hbm, 62, rfl⟩
abbrev main_call0_cst_2 : Ref sig .tc := ⟨.hbm, 63, rfl⟩
abbrev main_call0_v7 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_c : Ref sig .tc := ⟨.hbm, 84, rfl⟩
abbrev main_v54 : Ref sig .tc := ⟨.hbm, 85, rfl⟩
abbrev main_v55 : Ref sig .tc := ⟨.hbm, 86, rfl⟩
abbrev main_c_5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_6 : Ref sig .tc := ⟨.hbm, 93, rfl⟩
abbrev main_v61 : Ref sig .tc := ⟨.hbm, 94, rfl⟩
abbrev main_v62 : Ref sig .tc := ⟨.hbm, 95, rfl⟩
abbrev main_c_7 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_8 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_cst_10 : Ref sig .tc := ⟨.hbm, 109, rfl⟩
abbrev main_call1_v0 : Ref sig .tc := ⟨.hbm, 110, rfl⟩
abbrev main_call1_v1 : Ref sig .tc := ⟨.hbm, 111, rfl⟩
abbrev main_v73 : Ref sig .tc := ⟨.hbm, 112, rfl⟩
abbrev main_v74 : Ref sig .tc := ⟨.hbm, 113, rfl⟩
abbrev main_cst_11 : Ref sig .tc := ⟨.hbm, 114, rfl⟩
abbrev main_call2_v0 : Ref sig .tc := ⟨.hbm, 115, rfl⟩
abbrev main_call2_v1 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_12 : Ref sig .tc := ⟨.hbm, 120, rfl⟩
abbrev main_call3_v0 : Ref sig .tc := ⟨.hbm, 121, rfl⟩
abbrev main_call3_v1 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_13 : Ref sig .tc := ⟨.hbm, 126, rfl⟩
abbrev main_call4_v0 : Ref sig .tc := ⟨.hbm, 127, rfl⟩
abbrev main_call4_v1 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_14 : Ref sig .tc := ⟨.hbm, 133, rfl⟩
abbrev main_call5_v0 : Ref sig .tc := ⟨.hbm, 134, rfl⟩
abbrev main_call5_v1 : Ref sig .tc := ⟨.hbm, 135, rfl⟩
abbrev main_v85 : Ref sig .tc := ⟨.hbm, 136, rfl⟩
abbrev main_v86 : Ref sig .tc := ⟨.hbm, 137, rfl⟩
abbrev main_cst_15 : Ref sig .tc := ⟨.hbm, 138, rfl⟩
abbrev main_call6_v0 : Ref sig .tc := ⟨.hbm, 139, rfl⟩
abbrev main_call6_v1 : Ref sig .tc := ⟨.hbm, 140, rfl⟩
abbrev main_v87 : Ref sig .tc := ⟨.hbm, 141, rfl⟩
abbrev main_cst_16 : Ref sig .tc := ⟨.hbm, 142, rfl⟩
abbrev main_cst_17 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_call7_v3 : Ref sig .tc := ⟨.hbm, 147, rfl⟩
abbrev main_call7_v4 : Ref sig .tc := ⟨.hbm, 148, rfl⟩
abbrev main_v88 : Ref sig .tc := ⟨.hbm, 149, rfl⟩
abbrev main_v89 : Ref sig .tc := ⟨.hbm, 150, rfl⟩
abbrev main_cst_18 : Ref sig .tc := ⟨.hbm, 151, rfl⟩
abbrev main_call8_v0 : Ref sig .tc := ⟨.hbm, 152, rfl⟩
abbrev main_call8_v1 : Ref sig .tc := ⟨.hbm, 153, rfl⟩
abbrev main_v90 : Ref sig .tc := ⟨.hbm, 154, rfl⟩
abbrev main_cst_19 : Ref sig .tc := ⟨.hbm, 155, rfl⟩
abbrev main_call9_v0 : Ref sig .tc := ⟨.hbm, 156, rfl⟩
abbrev main_call9_v1 : Ref sig .tc := ⟨.hbm, 157, rfl⟩
abbrev main_v91 : Ref sig .tc := ⟨.hbm, 158, rfl⟩
abbrev main_cst_20 : Ref sig .tc := ⟨.hbm, 159, rfl⟩
abbrev main_v92 : Ref sig .tc := ⟨.hbm, 160, rfl⟩
abbrev main_v93 : Ref sig .tc := ⟨.hbm, 161, rfl⟩
abbrev main_cst_21 : Ref sig .tc := ⟨.hbm, 162, rfl⟩
abbrev main_v94 : Ref sig .tc := ⟨.hbm, 163, rfl⟩
abbrev main_v95 : Ref sig .tc := ⟨.hbm, 164, rfl⟩
abbrev main_cst_22 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_cst_23 : Ref sig .tc := ⟨.hbm, 173, rfl⟩
abbrev main_v103 : Ref sig .tc := ⟨.hbm, 174, rfl⟩
abbrev main_v104 : Ref sig .tc := ⟨.hbm, 175, rfl⟩
abbrev main_cst_24 : Ref sig .tc := ⟨.hbm, 176, rfl⟩
abbrev main_v105 : Ref sig .tc := ⟨.hbm, 177, rfl⟩
abbrev main_v106 : Ref sig .tc := ⟨.hbm, 178, rfl⟩
abbrev main_cst_25 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_c_26 : Ref sig .tc := ⟨.hbm, 183, rfl⟩
abbrev main_v110 : Ref sig .tc := ⟨.hbm, 184, rfl⟩
abbrev main_v111 : Ref sig .tc := ⟨.hbm, 185, rfl⟩
abbrev main_c_27 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_c_28 : Ref sig .tc := ⟨.hbm, 192, rfl⟩
abbrev main_v117 : Ref sig .tc := ⟨.hbm, 193, rfl⟩
abbrev main_v118 : Ref sig .tc := ⟨.hbm, 194, rfl⟩
abbrev main_c_29 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_cst_30 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x4 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S10000x32 : Shape := ⟨2, ![10000, 32]⟩
abbrev S1x2x160000 : Shape := ⟨3, ![1, 2, 160000]⟩
abbrev S1x10000x3 : Shape := ⟨3, ![1, 10000, 3]⟩
abbrev S32x64 : Shape := ⟨2, ![32, 64]⟩
abbrev S64 : Shape := ⟨1, ![64]⟩
abbrev S4x64 : Shape := ⟨2, ![4, 64]⟩
abbrev S64x64 : Shape := ⟨2, ![64, 64]⟩
abbrev S64x67 : Shape := ⟨2, ![64, 67]⟩
abbrev S67 : Shape := ⟨1, ![67]⟩
abbrev S1x64 : Shape := ⟨2, ![1, 64]⟩
abbrev S64x4 : Shape := ⟨2, ![64, 4]⟩
abbrev S4 : Shape := ⟨1, ![4]⟩
abbrev S10000x64 : Shape := ⟨2, ![10000, 64]⟩
abbrev S_ : Shape := ⟨0, ![]⟩
abbrev S2x160000 : Shape := ⟨2, ![2, 160000]⟩
abbrev S10000x3 : Shape := ⟨2, ![10000, 3]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S10000x67 : Shape := ⟨2, ![10000, 67]⟩
abbrev S170000x1 : Shape := ⟨2, ![170000, 1]⟩
abbrev S170000x67 : Shape := ⟨2, ![170000, 67]⟩
abbrev S170000x3 : Shape := ⟨2, ![170000, 3]⟩
abbrev S64x170000x1 : Shape := ⟨3, ![64, 170000, 1]⟩
abbrev S64x170000x3 : Shape := ⟨3, ![64, 170000, 3]⟩
abbrev S64x170000x4 : Shape := ⟨3, ![64, 170000, 4]⟩
abbrev S64x170000x64 : Shape := ⟨3, ![64, 170000, 64]⟩
abbrev S1x1x64 : Shape := ⟨3, ![1, 1, 64]⟩
abbrev S64x170000x67 : Shape := ⟨3, ![64, 170000, 67]⟩
abbrev S1x67 : Shape := ⟨2, ![1, 67]⟩
abbrev S1x1x67 : Shape := ⟨3, ![1, 1, 67]⟩
abbrev S1x170000x67 : Shape := ⟨3, ![1, 170000, 67]⟩
abbrev S64x170000 : Shape := ⟨2, ![64, 170000]⟩
abbrev S170000x64 : Shape := ⟨2, ![170000, 64]⟩
abbrev S10000x4 : Shape := ⟨2, ![10000, 4]⟩
abbrev S1x4 : Shape := ⟨2, ![1, 4]⟩

abbrev nBuf : Space → Nat
  | .hbm => 174
  | .vmem => 0
  | .smem => 0
  | _ => 0

abbrev hbmTy0_0 (i : Nat) : BufTy := match i % 128 with
  | 0 => ⟨S10000x32, .f32⟩
  | 1 => ⟨S1x2x160000, .i32⟩
  | 2 => ⟨S1x10000x3, .f32⟩
  | 3 => ⟨S1x10000x3, .f32⟩
  | 4 => ⟨S32x64, .f32⟩
  | 5 => ⟨S64, .f32⟩
  | 6 => ⟨S4x64, .f32⟩
  | 7 => ⟨S64, .f32⟩
  | 8 => ⟨S64x64, .f32⟩
  | 9 => ⟨S64, .f32⟩
  | 10 => ⟨S64x67, .f32⟩
  | 11 => ⟨S67, .f32⟩
  | 12 => ⟨S1x64, .f32⟩
  | 13 => ⟨S64x4, .f32⟩
  | 14 => ⟨S4, .f32⟩
  | 15 => ⟨S10000x64, .f32⟩
  | 16 => ⟨S1x64, .f32⟩
  | 17 => ⟨S10000x64, .f32⟩
  | 18 => ⟨S10000x64, .f32⟩
  | 19 => ⟨S_, .f32⟩
  | 20 => ⟨S10000x64, .f32⟩
  | 21 => ⟨S10000x64, .f32⟩
  | 22 => ⟨S10000x64, .f32⟩
  | 23 => ⟨S2x160000, .i32⟩
  | 24 => ⟨S10000x3, .f32⟩
  | 25 => ⟨S10000, .i32⟩
  | 26 => ⟨S1x160000, .i32⟩
  | 27 => ⟨S160000, .i32⟩
  | 28 => ⟨S170000, .i32⟩
  | 29 => ⟨S1x160000, .i32⟩
  | 30 => ⟨S160000, .i32⟩
  | 31 => ⟨S170000, .i32⟩
  | 32 => ⟨S10000x67, .f32⟩
  | 33 => ⟨S_, .i32⟩
  | 34 => ⟨S170000, .i32⟩
  | 35 => ⟨S170000, .i1⟩
  | 36 => ⟨S_, .i32⟩
  | 37 => ⟨S170000, .i32⟩
  | 38 => ⟨S170000, .i32⟩
  | 39 => ⟨S170000, .i32⟩
  | 40 => ⟨S170000x1, .i32⟩
  | 41 => ⟨S170000x67, .f32⟩
  | 42 => ⟨S_, .i32⟩
  | 43 => ⟨S170000, .i32⟩
  | 44 => ⟨S170000, .i1⟩
  | 45 => ⟨S_, .i32⟩
  | 46 => ⟨S170000, .i32⟩
  | 47 => ⟨S170000, .i32⟩
  | 48 => ⟨S170000, .i32⟩
  | 49 => ⟨S170000x1, .i32⟩
  | 50 => ⟨S170000x3, .f32⟩
  | 51 => ⟨S_, .i32⟩
  | 52 => ⟨S170000, .i32⟩
  | 53 => ⟨S170000, .i1⟩
  | 54 => ⟨S_, .i32⟩
  | 55 => ⟨S170000, .i32⟩
  | 56 => ⟨S170000, .i32⟩
  | 57 => ⟨S170000, .i32⟩
  | 58 => ⟨S170000x1, .i32⟩
  | 59 => ⟨S170000x3, .f32⟩
  | 60 => ⟨S170000x3, .f32⟩
  | 61 => ⟨S170000x3, .f32⟩
  | 62 => ⟨S_, .f32⟩
  | 63 => ⟨S170000, .f32⟩
  | 64 => ⟨S_, .f32⟩
  | 65 => ⟨S170000, .f32⟩
  | 66 => ⟨S170000, .i1⟩
  | 67 => ⟨S_, .f32⟩
  | 68 => ⟨S_, .f32⟩
  | 69 => ⟨S170000, .f32⟩
  | 70 => ⟨S170000, .f32⟩
  | 71 => ⟨S170000, .f32⟩
  | 72 => ⟨S_, .f32⟩
  | 73 => ⟨S_, .f32⟩
  | 74 => ⟨S170000, .f32⟩
  | 75 => ⟨S170000, .f32⟩
  | 76 => ⟨S170000x1, .f32⟩
  | 77 => ⟨S170000, .f32⟩
  | 78 => ⟨S_, .f32⟩
  | 79 => ⟨S_, .f32⟩
  | 80 => ⟨S170000, .f32⟩
  | 81 => ⟨S170000, .f32⟩
  | 82 => ⟨S170000x1, .f32⟩
  | 83 => ⟨S170000, .f32⟩
  | 84 => ⟨S_, .f32⟩
  | 85 => ⟨S_, .f32⟩
  | 86 => ⟨S170000, .f32⟩
  | 87 => ⟨S170000, .f32⟩
  | 88 => ⟨S170000, .f32⟩
  | 89 => ⟨S170000x1, .f32⟩
  | 90 => ⟨S170000, .f32⟩
  | 91 => ⟨S_, .f32⟩
  | 92 => ⟨S_, .f32⟩
  | 93 => ⟨S170000, .f32⟩
  | 94 => ⟨S170000, .f32⟩
  | 95 => ⟨S170000, .f32⟩
  | 96 => ⟨S_, .f32⟩
  | 97 => ⟨S_, .f32⟩
  | 98 => ⟨S170000, .f32⟩
  | 99 => ⟨S170000, .f32⟩
  | 100 => ⟨S_, .f32⟩
  | 101 => ⟨S_, .f32⟩
  | 102 => ⟨S_, .f32⟩
  | 103 => ⟨S170000, .f32⟩
  | 104 => ⟨S170000, .f32⟩
  | 105 => ⟨S_, .f32⟩
  | 106 => ⟨S170000, .f32⟩
  | 107 => ⟨S170000, .f32⟩
  | 108 => ⟨S170000, .f32⟩
  | 109 => ⟨S_, .f32⟩
  | 110 => ⟨S_, .f32⟩
  | 111 => ⟨S170000, .f32⟩
  | 112 => ⟨S170000, .f32⟩
  | 113 => ⟨S_, .f32⟩
  | 114 => ⟨S_, .f32⟩
  | 115 => ⟨S170000, .f32⟩
  | 116 => ⟨S170000, .f32⟩
  | 117 => ⟨S_, .f32⟩
  | 118 => ⟨S170000, .f32⟩
  | 119 => ⟨S170000, .f32⟩
  | 120 => ⟨S_, .f32⟩
  | 121 => ⟨S170000, .f32⟩
  | 122 => ⟨S170000, .f32⟩
  | 123 => ⟨S170000x1, .f32⟩
  | 124 => ⟨S170000x1, .f32⟩
  | 125 => ⟨S170000x1, .f32⟩
  | 126 => ⟨S170000x3, .f32⟩
  | 127 => ⟨S64, .f32⟩
  | _ => ⟨S10000x32, .f32⟩

abbrev hbmTy0_1 (i : Nat) : BufTy := match i % 128 with
  | 0 => ⟨S64x170000x1, .f32⟩
  | 1 => ⟨S64x170000x3, .f32⟩
  | 2 => ⟨S64x170000x4, .f32⟩
  | 3 => ⟨S64x170000x64, .f32⟩
  | 4 => ⟨S1x64, .f32⟩
  | 5 => ⟨S1x1x64, .f32⟩
  | 6 => ⟨S64x170000x64, .f32⟩
  | 7 => ⟨S64x170000x64, .f32⟩
  | 8 => ⟨S_, .f32⟩
  | 9 => ⟨S64x170000x64, .f32⟩
  | 10 => ⟨S64x170000x64, .f32⟩
  | 11 => ⟨S64x170000x64, .f32⟩
  | 12 => ⟨S64x170000x64, .f32⟩
  | 13 => ⟨S1x64, .f32⟩
  | 14 => ⟨S1x1x64, .f32⟩
  | 15 => ⟨S64x170000x64, .f32⟩
  | 16 => ⟨S64x170000x64, .f32⟩
  | 17 => ⟨S_, .f32⟩
  | 18 => ⟨S64x170000x64, .f32⟩
  | 19 => ⟨S64x170000x64, .f32⟩
  | 20 => ⟨S64x170000x64, .f32⟩
  | 21 => ⟨S64x170000x67, .f32⟩
  | 22 => ⟨S1x67, .f32⟩
  | 23 => ⟨S1x1x67, .f32⟩
  | 24 => ⟨S64x170000x67, .f32⟩
  | 25 => ⟨S64x170000x67, .f32⟩
  | 26 => ⟨S1x170000x67, .f32⟩
  | 27 => ⟨S64x170000x67, .f32⟩
  | 28 => ⟨S64x170000x67, .f32⟩
  | 29 => ⟨S_, .f32⟩
  | 30 => ⟨S64x170000, .f32⟩
  | 31 => ⟨S170000x64, .f32⟩
  | 32 => ⟨S_, .f32⟩
  | 33 => ⟨S10000x64, .f32⟩
  | 34 => ⟨S170000x1, .i32⟩
  | 35 => ⟨S10000x64, .f32⟩
  | 36 => ⟨S10000x64, .f32⟩
  | 37 => ⟨S10000x64, .f32⟩
  | 38 => ⟨S_, .f32⟩
  | 39 => ⟨S10000x64, .f32⟩
  | 40 => ⟨S10000x64, .f32⟩
  | 41 => ⟨S10000x64, .f32⟩
  | 42 => ⟨S10000x4, .f32⟩
  | 43 => ⟨S1x4, .f32⟩
  | 44 => ⟨S10000x4, .f32⟩
  | 45 => ⟨S10000x4, .f32⟩
  | _ => ⟨S10000x32, .f32⟩

abbrev hbmTy (i : Nat) : BufTy := match i / 128 with
  | 0 => hbmTy0_0 i
  | 1 => hbmTy0_1 i
  | _ => ⟨S10000x32, .f32⟩

abbrev bufTy : (tb : Table) → Fin (tcTables nBuf tb) → BufTy
  | .hbm, ⟨i, _⟩ => hbmTy i
  | _, _ => ⟨S10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_call0_v0 : Ref sig .tc := ⟨.hbm, 68, rfl⟩
abbrev main_call0_v1 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_call3_v0 : Ref sig .tc := ⟨.hbm, 85, rfl⟩
abbrev main_call3_v1 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_11 : Ref sig .tc := ⟨.hbm, 91, rfl⟩
abbrev main_call4_v0 : Ref sig .tc := ⟨.hbm, 92, rfl⟩
abbrev main_call4_v1 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_call5_v0 : Ref sig .tc := ⟨.hbm, 97, rfl⟩
abbrev main_call5_v1 : Ref sig .tc := ⟨.hbm, 98, rfl⟩
abbrev main_v57 : Ref sig .tc := ⟨.hbm, 99, rfl⟩
abbrev main_cst_13 : Ref sig .tc := ⟨.hbm, 100, rfl⟩
abbrev main_cst_14 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_v58 : Ref sig .tc := ⟨.hbm, 107, rfl⟩
abbrev main_v59 : Ref sig .tc := ⟨.hbm, 108, rfl⟩
abbrev main_cst_15 : Ref sig .tc := ⟨.hbm, 109, rfl⟩
abbrev main_call7_v0 : Ref sig .tc := ⟨.hbm, 110, rfl⟩
abbrev main_call7_v1 : Ref sig .tc := ⟨.hbm, 111, rfl⟩
abbrev main_v60 : Ref sig .tc := ⟨.hbm, 112, rfl⟩
abbrev main_cst_16 : Ref sig .tc := ⟨.hbm, 113, rfl⟩
abbrev main_call8_v0 : Ref sig .tc := ⟨.hbm, 114, rfl⟩
abbrev main_call8_v1 : Ref sig .tc := ⟨.hbm, 115, rfl⟩
abbrev main_v61 : Ref sig .tc := ⟨.hbm, 116, rfl⟩
abbrev main_cst_17 : Ref sig .tc := ⟨.hbm, 117, rfl⟩
abbrev main_v62 : Ref sig .tc := ⟨.hbm, 118, rfl⟩
abbrev main_v63 : Ref sig .tc := ⟨.hbm, 119, rfl⟩
abbrev main_cst_18 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_19 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_20 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_21 : Ref sig .tc := ⟨.hbm, 157, rfl⟩
abbrev main_v98 : Ref sig .tc := ⟨.hbm, 158, rfl⟩
abbrev main_v99 : Ref sig .tc := ⟨.hbm, 159, rfl⟩
abbrev main_cst_22 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_23 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩

abbrev nD : Nat := 1
abbrev τ : Topo := Topo.v7x

variable {F : FTy → Type} [FloatOps F]
-- ==== Proof.KRun.lean ====
/- The kernel's run read at its result: every fair execution ends with the result array at what the last region leaves, and
   the arguments as launched. -/
module

public import proofs.«01_k».proof.Proof.Gen.KernelIdeal.Frame

@[expose] public section

set_option maxRecDepth 16384

noncomputable section

namespace Cert.Proof.Ker

open Cert.KernelIdeal Cert.KernelIdeal.Gen Idealize.ShloMosaic Idealize.ShloMosaic.TcCoe
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The run's result array is what the last region leaves of it. -/
theorem run : θ_run defs (onTc (τ := τ) (main (F := F))) ⟨m, fun _ => 0, ρ⟩ (fun r => ∀ c : Dev nD,
      r.2.mem ((c.tc : Thread nD τ).loc main_v130) = W26 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h _ => fun c =>
      ⟨h c _ (mem_uc main_v130 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c)⟩)

end Cert.Proof.Ker

end
-- ==== Proof.Rows.lean ====
/- A gather of rows of a table and a scatter of rows into one, read at an index: a gather reads the row that the index word
   names, clamped into the table; an update of the scatter lands at the row that its word names, if there is one. -/
module

public import Idealize.ShloMosaic.Lib.Pointwise
public import Idealize.ShloMosaic.Lib.Routing.OpsPair

@[expose] public section

noncomputable section

namespace Cert.Proof

open Idealize.ShloMosaic

/-- The row of a table of 10000 that a start word names: signed, clamped into the table. -/
def clampRow (w : BitVec 32) : Fin 10000 := ⟨min w.toInt.toNat 9999, by omega⟩

/-- The dimension numbers of a gather of whole rows. -/
abbrev rowGather (n B : ℕ) (wf : GatherDims.WF ⟨2, ![10000, B]⟩ ⟨2, ![n, 1]⟩ ⟨2, ![n, B]⟩ [1] [0] [] [0] [] 1 ![1, B]) :
    GatherDims ⟨2, ![10000, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

/-- A gather of rows at an index reads the clamped row that its word names. -/
theorem gather_rows {α : Type} {n B : ℕ} (wf) (x : (⟨2, ![10000, B]⟩ : Shape).Idx → α) (i : IVec ⟨2, ![n, 1]⟩ 32)
    (e : Fin n) (k : Fin B) :
    Host.gather (rowGather n B wf) x i (ix2 e k) = x (ix2 (clampRow (i (ix2 e (0 : Fin 1)))) k) := by
  unfold Host.gather
  have hs : (rowGather n B wf).siIdx (ix2 e k) ⟨0, Nat.zero_lt_one⟩ = ix2 e (0 : Fin 1) := by
    funext b
    match b with
    | ⟨0, _⟩ => rfl
    | ⟨1, _⟩ => rfl
  refine congrArg x (funext fun a => Fin.ext ?_)
  match a with
  | ⟨0, _⟩ =>
    show min (i ((rowGather n B wf).siIdx (ix2 e k) ⟨0, Nat.zero_lt_one⟩)).toInt.toNat (10000 - 1) + 0 + 0 = _
    rw [hs]
    rfl
  | ⟨1, _⟩ => exact Nat.zero_add _

/-- The dimension numbers of a scatter of whole rows. -/
abbrev rowScatter (n : ℕ) (wf : ScatterDims.WF ⟨2, ![10000, 64]⟩ ⟨2, ![n, 1]⟩ ⟨2, ![n, 64]⟩ [1] [0] [0] 1) :
    ScatterDims ⟨2, ![10000, 64]⟩ ⟨2, ![n, 1]⟩ ⟨2, ![n, 64]⟩ where
  updateWindowDims := [1]
  insertedWindowDims := [0]
  scatterDimsToOperandDims := [0]
  indexVectorDim := 1
  wf := wf

/-- Where an update lands: at the row of its word, in its own column. -/
theorem lands {n : ℕ} (wf) (i : IVec ⟨2, ![n, 1]⟩ 32) (e : Fin n) (c c' : Fin 64) (r : Fin 10000) :
    (rowScatter n wf).resultIdx? (ix2 e c') i = some (ix2 r c) ↔ (i (ix2 e (0 : Fin 1))).toInt = r.val ∧ c' = c := by
  have hs : (rowScatter n wf).siIdx (ix2 e c') ⟨0, Nat.zero_lt_one⟩ = ix2 e (0 : Fin 1) := by
    funext b
    match b with
    | ⟨0, _⟩ => rfl
    | ⟨1, _⟩ => rfl
  have h0 : (rowScatter n wf).start (ix2 e c') i 0 = (i (ix2 e (0 : Fin 1))).toInt :=
    show (i ((rowScatter n wf).siIdx (ix2 e c') ⟨0, Nat.zero_lt_one⟩)).toInt = _ by rw [hs]
  have h1 : (rowScatter n wf).start (ix2 e c') i 1 = 0 := rfl
  have w0 : (rowScatter n wf).window (ix2 e c') 0 = 0 := rfl
  have w1 : (rowScatter n wf).window (ix2 e c') 1 = c'.val := rfl
  rw [Routing.resultIdx?_eq_some]
  constructor
  · intro h
    have a0 := h 0
    have a1 := h 1
    rw [h0, w0] at a0
    rw [h1, w1] at a1
    have e0 : (((ix2 r c : (⟨2, ![10000, 64]⟩ : Shape).Idx) 0).val : Int) = r.val := rfl
    have e1 : (((ix2 r c : (⟨2, ![10000, 64]⟩ : Shape).Idx) 1).val : Int) = c.val := rfl
    rw [e0] at a0
    rw [e1] at a1
    exact ⟨by omega, Fin.ext (by omega)⟩
  · rintro ⟨h, rfl⟩ a
    match a with
    | ⟨0, _⟩ => exact (congrArg₂ (· + ·) h0 (congrArg Nat.cast w0)).trans (by rw [h]; exact add_zero _)
    | ⟨1, _⟩ => exact (congrArg₂ (· + ·) h1 (congrArg Nat.cast w1)).trans (zero_add _)

/-- A scatter of rows by addition, at a row and a column: the operand's element and the updates whose word names the row. -/
theorem scatter_rows {n : ℕ} (wf) (x : FVec Ideal ⟨2, ![10000, 64]⟩ .f32) (i : IVec ⟨2, ![n, 1]⟩ 32)
    (u : FVec Ideal ⟨2, ![n, 64]⟩ .f32) (r : Fin 10000) (c : Fin 64) :
    Host.scatterAdd (rowScatter n wf) x i u (ix2 r c) =
      (x (ix2 r c) + ∑ e : Fin n, if (i (ix2 e (0 : Fin 1))).toInt = r.val then u (ix2 e c) else 0 : EReal) := by
  have h : Host.scatterAdd (rowScatter n wf) x i u (ix2 r c) = (x (ix2 r c)
        + ∑ j ∈ Finset.univ.filter (fun j => (rowScatter n wf).resultIdx? j i = some (ix2 r c)), u j : EReal) := rfl
  rw [h, Finset.sum_filter, sum_idx2]
  refine congrArg (x (ix2 r c) + ·) (Finset.sum_congr rfl fun e _ => ?_)
  simp only [lands]
  by_cases hn : (i (ix2 e (0 : Fin 1))).toInt = r.val
  · simp only [hn, true_and, if_true]
    exact (Finset.sum_ite_eq' Finset.univ c fun c' => u (ix2 e c')).trans (if_pos (Finset.mem_univ c))
  · simp only [hn, false_and, if_false, Finset.sum_const_zero]

end Cert.Proof

end
-- ==== Proof.Spec.lean ====
/- The message passing network in scalars: the features of a pair of nodes, the kernel network's two layers, a message, and
   the decoders. No program is mentioned here. -/
module

public import proofs.«01_k».proof.Proof.Rows

@[expose] public section

noncomputable section

namespace Cert.Proof

open Idealize.ShloMosaic

/-- An array of extended reals of one, two or three axes. -/
abbrev Arr1 (a : ℕ) := FVec Ideal (⟨1, ![a]⟩ : Shape) .f32
@[inherit_doc Arr1] abbrev Arr2 (a b : ℕ) := FVec Ideal (⟨2, ![a, b]⟩ : Shape) .f32
@[inherit_doc Arr1] abbrev Arr3 (a b c : ℕ) := FVec Ideal (⟨3, ![a, b, c]⟩ : Shape) .f32

/-- The decoders' factor, the float nearest 0.01. -/
abbrev c001 : EReal := Ideal.ofBits .f32 0x3C23D70A#32
/-- The kernel network's factor, the float nearest 0.1. -/
abbrev c01 : EReal := Ideal.ofBits .f32 0x3DCCCCCD#32
/-- The float nearest π. -/
abbrev cpi : EReal := Ideal.ofBits .f32 0x40490FDB#32
/-- The float −1. -/
abbrev cm1 : EReal := Ideal.ofBits .f32 0xBF800000#32

/-- A word with a negative one counted from the end of 10000 rows. -/
def wrapWord (w : BitVec 32) : BitVec 32 := Scalar.select (IntOp.cmpi .slt w 0#32) (IntOp.addi w 10000#32) w

/-- The row that an index word names. -/
def wrapRow (w : BitVec 32) : Fin 10000 := clampRow (wrapWord w)

/-- The squared length of a difference of positions. -/
def sqS (r : Fin 3 → EReal) : EReal := ∑ t, r t * r t

/-- Whether it is positive. -/
def maskS (r : Fin 3 → EReal) : BitVec 1 := FloatOps.cmpf (F := Ideal) (φ := .f32) .ogt (sqS r) (0 : EReal)

/-- The length, zero where the mask is off. -/
def rhoS (r : Fin 3 → EReal) : EReal := Scalar.select (maskS r) (Ideal.sqrt (Scalar.select (maskS r) (sqS r) 1)) 0

/-- The angle in the plane over π. -/
def thetaS (r : Fin 3 → EReal) : EReal :=
  Ideal.div (Scalar.select (maskS r) (Ideal.atan2 (Scalar.select (maskS r) (r 1) 0) (Scalar.select (maskS r) (r 0) 1)) 0) cpi

/-- The elevation over π. -/
def phiS (r : Fin 3 → EReal) : EReal :=
  Ideal.div (Scalar.select (maskS r) (Ideal.asin (min 1 (max cm1
    (Scalar.select (maskS r) (Ideal.div (r 2) (Scalar.select (maskS r) (rhoS r) 1)) 0)))) 0) cpi

/-- The three spherical features of a difference of positions. -/
def featS (r : Fin 3 → EReal) (k : Fin 3) : EReal :=
  if k.val < 1 then rhoS r else if k.val - 1 < 1 then thetaS r else phiS r

/-- A channel's number as a float. -/
def chan (c : Fin 64) : EReal := FloatOps.sitofp (F := Ideal) .f32 (BitVec.ofNat 32 c.val)

/-- A decoded node feature. -/
def xS (a0 : Arr2 10000 32) (a4 : Arr2 32 64) (a5 : Arr1 64) (n : Fin 10000) (k : Fin 64) : EReal :=
  Ideal.sin (c001 * (∑ t, a0 (ix2 n t) * a4 (ix2 t k) + a5 (ix1 k)))

/-- A node's features beside its position. -/
def xcatS (a0 : Arr2 10000 32) (a4 : Arr2 32 64) (a5 : Arr1 64) (a2 : Arr3 1 10000 3) (n : Fin 10000) (k : Fin 67) : EReal :=
  if h : k.val < 64 then xS a0 a4 a5 n ⟨k.val, h⟩ else a2 (ix3 0 n ⟨k.val - 64, by omega⟩)

/-- The kernel network's first layer at features `f` and channel `c`. -/
def h0S (a6 : Arr2 4 64) (a7 : Arr1 64) (f : Fin 3 → EReal) (c k : Fin 64) : EReal :=
  Ideal.sin (c01 * (∑ t : Fin 4, (if h : t.val < 3 then f ⟨t.val, h⟩ else chan c) * a6 (ix2 t k) + a7 (ix1 k)))

/-- Its second layer. -/
def h1S (a6 : Arr2 4 64) (a7 : Arr1 64) (a8 : Arr2 64 64) (a9 : Arr1 64) (f : Fin 3 → EReal) (c k : Fin 64) : EReal :=
  Ideal.sin (c01 * (∑ l, h0S a6 a7 f c l * a8 (ix2 l k) + a9 (ix1 k)))

/-- A message: the kernel network's output against the source's row. -/
def msgS (a6 : Arr2 4 64) (a7 : Arr1 64) (a8 : Arr2 64 64) (a9 : Arr1 64) (a10 : Arr2 64 67) (a11 : Arr1 67)
    (f : Fin 3 → EReal) (x : Fin 67 → EReal) (c : Fin 64) : EReal :=
  ∑ k, (∑ l, h1S a6 a7 a8 a9 f c l * a10 (ix2 l k) + a11 (ix1 k)) * x k

/-- The final decoder at summed messages. -/
def outS (a12 : Arr2 1 64) (a13 : Arr2 64 4) (a14 : Arr1 4) (agg : Fin 64 → EReal) (j : Fin 4) : EReal :=
  ∑ c, Ideal.sin (c001 * (agg c + a12 (ix2 0 c))) * a13 (ix2 c j) + a14 (ix1 j)

end Cert.Proof

end
-- ==== Proof.KSpec.lean ====
/- The kernel's three stages in scalars: a node's row against the last layer's weights, an edge's message, and the final
   decoder. No program is mentioned here. -/
module

public import proofs.«01_k».proof.Proof.Spec

@[expose] public section

noncomputable section

namespace Cert.Proof

open Idealize.ShloMosaic

/-- A decoded node feature, from the bias as a row. -/
def xK {N : ℕ} (x0 : Arr2 N 32) (x2 : Arr2 32 64) (x3 : Arr2 1 64) (n : Fin N) (l : Fin 64) : EReal :=
  Ideal.sin (c001 * (∑ t, x0 (ix2 n t) * x2 (ix2 t l) + x3 (ix2 0 l)))

/-- A node's decoded features and position against `w` columns of weights. -/
def zK {N w : ℕ} (x0 : Arr2 N 32) (x1 : Arr2 N 3) (x2 : Arr2 32 64) (x3 : Arr2 1 64) (x4 : Arr2 64 w) (x5 : Arr2 3 w)
    (n : Fin N) (k : Fin w) : EReal :=
  ∑ l, xK x0 x2 x3 n l * x4 (ix2 l k) + ∑ t, x1 (ix2 n t) * x5 (ix2 t k)

/-- An edge's features against the first layer's weights, the channel left out. -/
def baseK {N : ℕ} (x0 : Arr2 N 4) (x3 : Arr2 4 64) (x4 : Arr2 1 64) (n : Fin N) (l : Fin 64) : EReal :=
  ∑ t, x0 (ix2 n t) * x3 (ix2 t l) + x4 (ix2 0 l)

/-- Column `p` of four copies of 64 columns. -/
def col64 (p : Fin 256) : Fin 64 := ⟨p.val % 64, Nat.mod_lt _ (by decide)⟩

/-- A group of four channels at column `j`: the second layer's sine against the source node's row. -/
def grpK {N : ℕ} (x0 : Arr2 N 4) (x1 : Arr2 N 64) (x3 : Arr2 4 64) (x4 : Arr2 1 64) (x5 x6 : Arr2 16 256) (x7 : Arr2 256 256)
    (x8 : Arr2 1 256) (n : Fin N) (g : Fin 16) (j : Fin 256) : EReal :=
  Ideal.sin (∑ p, (Ideal.sin (baseK x0 x3 x4 n (col64 p)) * x5 (ix2 g p) + Ideal.cos (baseK x0 x3 x4 n (col64 p)) * x6 (ix2 g p))
    * x7 (ix2 p j) + x8 (ix2 0 j)) * x1 (ix2 n (col64 j))

/-- The group of a channel, and the column of its group where its `k`-th term is. -/
def grpOf (c : Fin 64) : Fin 16 := ⟨c.val / 4, by omega⟩
@[inherit_doc grpOf] def colOf (c k : Fin 64) : Fin 256 := ⟨64 * (c.val % 4) + k.val, by omega⟩

/-- An edge's message at a channel. -/
def eK {N : ℕ} (x0 : Arr2 N 4) (x1 : Arr2 N 64) (x2 : Arr2 N 1) (x3 : Arr2 4 64) (x4 : Arr2 1 64) (x5 x6 : Arr2 16 256)
    (x7 : Arr2 256 256) (x8 : Arr2 1 256) (n : Fin N) (c : Fin 64) : EReal :=
  ∑ k, grpK x0 x1 x3 x4 x5 x6 x7 x8 n (grpOf c) (colOf c k) + x2 (ix2 n 0)

/-- The final decoder of the summed messages and the self loop. -/
def oK {N : ℕ} (x0 : Arr2 N 64) (x1 : Arr2 N 64) (x2 : Arr2 N 1) (x3 : Arr2 64 64) (x4 : Arr2 1 64) (x5 : Arr2 64 4)
    (x6 : Arr2 1 4) (n : Fin N) (j : Fin 4) : EReal :=
  ∑ c, Ideal.sin (c001 * (x0 (ix2 n c) + ∑ k, x1 (ix2 n k) * x3 (ix2 k c) + x2 (ix2 n 0) + x4 (ix2 0 c))) * x5 (ix2 c j)
    + x6 (ix2 0 j)

end Cert.Proof

end
-- ==== Proof.KArr.lean ====
/- The arrays that the kernel's host operations form and its stages read and leave, as functions of the arguments. No program
   is mentioned here. -/
module

public import proofs.«01_k».proof.Proof.KSpec

@[expose] public section

noncomputable section

namespace Cert.Proof

open Idealize.ShloMosaic

/-- The phase shift of a channel at a column: the channel's share of the first layer. -/
def shiftK (a6 : Arr2 4 64) (c : Fin 64) (l : Fin 64) : EReal := c01 * chan c * a6 (ix2 3 l)

/-- The channel at a place of a group of four. -/
def chanOf (g : Fin 16) (p : Fin 256) : Fin 64 := ⟨g.val * 4 + p.val / 64, by omega⟩

/-- The second layer of the kernel network at a loop, the factor 0.1 taken into the weights. -/
def selfK (a6 : Arr2 4 64) (a7 : Arr1 64) (a8 : Arr2 64 64) (a9 : Arr1 64) (c k : Fin 64) : EReal :=
  Ideal.sin (∑ l, Ideal.sin (c01 * a7 (ix1 l) + shiftK a6 c l) * (c01 * a8 (ix2 l k)) + c01 * a9 (ix1 k))

/-- The difference of the positions of an edge's two ends. -/
def relK (p : Arr2 10000 3) (d s : IVec (⟨1, ![160000]⟩ : Shape) 32) (e : Fin 160000) (t : Fin 3) : EReal :=
  p (ix2 (wrapRow (d (ix1 e))) t) - p (ix2 (wrapRow (s (ix1 e))) t)

/-- The sum of the rows of an array whose words name a row. -/
def aggK (d : IVec (⟨1, ![160000]⟩ : Shape) 32) (u : Arr2 160000 64) (n : Fin 10000) (k : Fin 64) : EReal :=
  ∑ e : Fin 160000, if (d (ix1 e)).toInt = n.val then u (ix2 e k) else 0

/-- The index of an array of one, two or three axes. -/
abbrev At1 (a : ℕ) := (⟨1, ![a]⟩ : Shape).Idx
@[inherit_doc At1] abbrev At2 (a b : ℕ) := (⟨2, ![a, b]⟩ : Shape).Idx

/-- The words of the edges' ends, three axes deep. -/
abbrev Words := IVec (⟨3, ![1, 2, 160000]⟩ : Shape) 32

/-- The positions without their leading axis. -/
def posArr (a2 : Arr3 1 10000 3) : Arr2 10000 3 := fun i : At2 10000 3 => a2 (ix3 0 (i 0) (i 1))
/-- The words of one end of the edges. -/
def wordArr (a1 : Words) (r : Fin 2) : IVec (⟨1, ![160000]⟩ : Shape) 32 := fun i : At1 160000 => a1 (ix3 0 r (i 0))
/-- A vector as a row. -/
def rowArr {n : ℕ} (b : Arr1 n) : Arr2 1 n := fun i : At2 1 n => b (ix1 (i 1))
/-- The cosines of the channels' phase shifts. -/
def cosArr (a6 : Arr2 4 64) : Arr2 16 256 := fun i : At2 16 256 => Ideal.cos (shiftK a6 (chanOf (i 0) (i 1)) (col64 (i 1)))
/-- The sines of the channels' phase shifts. -/
def sinArr (a6 : Arr2 4 64) : Arr2 16 256 := fun i : At2 16 256 => Ideal.sin (shiftK a6 (chanOf (i 0) (i 1)) (col64 (i 1)))
/-- The scaled weights of the second layer, four times along a diagonal. -/
def diagArr (a8 : Arr2 64 64) : Arr2 256 256 := fun i : At2 256 256 =>
  if (i 0).val / 64 = (i 1).val / 64 then c01 * a8 (ix2 (col64 (i 0)) (col64 (i 1))) else 0
/-- The scaled bias of the second layer, four times. -/
def bias1Arr (a9 : Arr1 64) : Arr2 1 256 := fun i : At2 1 256 => c01 * a9 (ix1 (col64 (i 1)))
/-- The last layer's weights of the decoded features, transposed. -/
def w2xArr (a10 : Arr2 64 67) : Arr2 64 64 := fun i : At2 64 64 => a10 (ix2 (i 1) ((i 0).castAdd 3))
/-- The last layer's weights of the position, transposed. -/
def w2pArr (a10 : Arr2 64 67) : Arr2 3 64 := fun i : At2 3 64 => a10 (ix2 (i 1) ((i 0).natAdd 64))
/-- The last layer's bias of the decoded features as a column. -/
def b2xArr (a11 : Arr1 67) : Arr2 64 1 := fun i : At2 64 1 => a11 (ix1 ((i 0).castAdd 3))
/-- The last layer's bias of the position as a column. -/
def b2pArr (a11 : Arr1 67) : Arr2 3 1 := fun i : At2 3 1 => a11 (ix1 ((i 0).natAdd 64))
/-- The scaled weights of the three features, and a row of zeros. -/
def w0Arr (a6 : Arr2 4 64) : Arr2 4 64 := fun i : At2 4 64 => if (i 0).val < 3 then c01 * a6 (ix2 (i 0) (i 1)) else 0
/-- The scaled bias of the first layer as a row. -/
def b0Arr (a7 : Arr1 64) : Arr2 1 64 := fun i : At2 1 64 => c01 * a7 (ix1 (i 1))
/-- The second layer at a loop, transposed. -/
def selfArr (a6 : Arr2 4 64) (a7 : Arr1 64) (a8 : Arr2 64 64) (a9 : Arr1 64) : Arr2 64 64 := fun i : At2 64 64 =>
  selfK a6 a7 a8 a9 (i 1) (i 0)
/-- The features of the edges, and a column of zeros. -/
def featArr (a1 : Words) (a2 : Arr3 1 10000 3) : Arr2 160000 4 := fun i : At2 160000 4 =>
  if h : (i 1).val < 3 then featS (relK (posArr a2) (wordArr a1 1) (wordArr a1 0) (i 0)) ⟨(i 1).val, h⟩ else 0
/-- The nodes' rows against the last layer's weights. -/
def zArr (a0 : Arr2 10000 32) (a2 : Arr3 1 10000 3) (a4 : Arr2 32 64) (a5 : Arr1 64) (a10 : Arr2 64 67) : Arr2 10000 64 :=
  fun i : At2 10000 64 => zK a0 (posArr a2) a4 (rowArr a5) (w2xArr a10) (w2pArr a10) (i 0) (i 1)
/-- The nodes' rows against the last layer's biases. -/
def sArr (a0 : Arr2 10000 32) (a2 : Arr3 1 10000 3) (a4 : Arr2 32 64) (a5 : Arr1 64) (a11 : Arr1 67) : Arr2 10000 1 :=
  fun i : At2 10000 1 => zK a0 (posArr a2) a4 (rowArr a5) (b2xArr a11) (b2pArr a11) (i 0) (i 1)
/-- The rows of a table of the nodes at the sources of the edges. -/
def atSrc {w : ℕ} (a1 : Words) (x : Arr2 10000 w) : Arr2 160000 w := fun i : At2 160000 w =>
  x (ix2 (wrapRow (wordArr a1 0 (ix1 (i 0)))) (i 1))
/-- The messages of the edges. -/
def msgArr (a0 : Arr2 10000 32) (a1 : Words) (a2 : Arr3 1 10000 3) (a4 : Arr2 32 64) (a5 : Arr1 64) (a6 : Arr2 4 64) (a7 : Arr1 64)
    (a8 : Arr2 64 64) (a9 : Arr1 64) (a10 : Arr2 64 67) (a11 : Arr1 67) : Arr2 160000 64 := fun i : At2 160000 64 =>
  eK (featArr a1 a2) (atSrc a1 (zArr a0 a2 a4 a5 a10)) (atSrc a1 (sArr a0 a2 a4 a5 a11)) (w0Arr a6) (b0Arr a7) (cosArr a6) (sinArr a6)
    (diagArr a8) (bias1Arr a9) (i 0) (i 1)
/-- The messages summed at their targets. -/
def aggArr (a1 : Words) (u : Arr2 160000 64) : Arr2 10000 64 := fun i : At2 10000 64 => aggK (wordArr a1 1) u (i 0) (i 1)
/-- The kernel's result at a node and an output. -/
def outK (a0 : Arr2 10000 32) (a1 : Words) (a2 : Arr3 1 10000 3) (a4 : Arr2 32 64) (a5 : Arr1 64) (a6 : Arr2 4 64) (a7 : Arr1 64)
    (a8 : Arr2 64 64) (a9 : Arr1 64) (a10 : Arr2 64 67) (a11 : Arr1 67) (a12 : Arr2 1 64) (a13 : Arr2 64 4) (a14 : Arr1 4)
    (n : Fin 10000) (j : Fin 4) : EReal :=
  oK (aggArr a1 (msgArr a0 a1 a2 a4 a5 a6 a7 a8 a9 a10 a11)) (zArr a0 a2 a4 a5 a10) (sArr a0 a2 a4 a5 a11) (selfArr a6 a7 a8 a9) a12 a13
    (rowArr a14) n j

end Cert.Proof

end
-- ==== Proof.KHost0.lean ====
/- What the kernel's host operations leave before the node stage, at an index. -/
module

public import proofs.«01_k».proof.Proof.Gen.KernelIdeal.Frame
public import proofs.«01_k».proof.Proof.KArr
public import Idealize.ShloMosaic.Lib.Pointwise
public import Idealize.ShloMosaic.Lib.StableHlo.ReadAt

@[expose] public section

set_option maxRecDepth 16384

noncomputable section

namespace Cert.Proof.Ker

open Cert.KernelIdeal Cert.KernelIdeal.Gen Idealize.ShloMosaic Idealize.ShloMosaic.TcCoe
open Cert.Proof

variable (U : Valuation τ sig (Elt Ideal))

/-- The first stretch leaves the positions without their leading axis. -/
theorem pos_apply (n : Fin 10000) (t : Fin 3) :
    StableHlo.after (hostOps0 (F := Ideal)) U (Proc.devRef .tc main_v0) (ix2 n t : S10000x3.Idx)
      = U (Proc.devRef .tc main_arg2) (ix3 0 n t : S1x10000x3.Idx) := by
  after_reads_at

/-- It leaves the source words as a vector. -/
theorem src_apply (e : Fin 160000) :
    StableHlo.after (hostOps0 (F := Ideal)) U (Proc.devRef .tc main_v3) (ix1 e : S160000.Idx)
      = U (Proc.devRef .tc main_arg1) (ix3 0 0 e : S1x2x160000.Idx) := by
  after_reads_at

/-- It leaves the target words as a vector. -/
theorem dst_apply (e : Fin 160000) :
    StableHlo.after (hostOps0 (F := Ideal)) U (Proc.devRef .tc main_v5) (ix1 e : S160000.Idx)
      = U (Proc.devRef .tc main_arg1) (ix3 0 1 e : S1x2x160000.Idx) := by
  after_reads_at

/-- It leaves the cosines of the phase shifts, four channels to a row. -/
theorem cos_apply (g : Fin 16) (p : Fin 256) :
    StableHlo.after (hostOps0 (F := Ideal)) U (Proc.devRef .tc main_v33) (ix2 g p : S16x256.Idx)
      = Ideal.cos (shiftK (U (Proc.devRef .tc main_arg6)) (chanOf g p) (col64 p)) := by
  after_reads_at
  rfl

/-- It leaves the sines of the phase shifts, four channels to a row. -/
theorem sin_apply (g : Fin 16) (p : Fin 256) :
    StableHlo.after (hostOps0 (F := Ideal)) U (Proc.devRef .tc main_v34) (ix2 g p : S16x256.Idx)
      = Ideal.sin (shiftK (U (Proc.devRef .tc main_arg6)) (chanOf g p) (col64 p)) := by
  after_reads_at
  rfl

/-- It leaves the second layer of the kernel network at a loop. -/
theorem self_apply (c k : Fin 64) :
    StableHlo.after (hostOps0 (F := Ideal)) U (Proc.devRef .tc main_v32) (ix2 c k : S64x64.Idx)
      = selfK (U (Proc.devRef .tc main_arg6)) (U (Proc.devRef .tc main_arg7)) (U (Proc.devRef .tc main_arg8))
          (U (Proc.devRef .tc main_arg9)) c k := by
  after_reads_at
  rfl

/-- It leaves the scaled weights of the second layer. -/
theorem w1_apply (l k : Fin 64) :
    StableHlo.after (hostOps0 (F := Ideal)) U (Proc.devRef .tc main_v36) (ix2 l k : S64x64.Idx)
      = c01 * U (Proc.devRef .tc main_arg8) (ix2 l k : S64x64.Idx) := by
  after_reads_at

/-- The second stretch leaves the scaled weights four times along a diagonal of blocks. -/
theorem diag_apply (p j : Fin 256) :
    StableHlo.after (hostOps0_1 (F := Ideal)) U (Proc.devRef .tc main_v37) (ix2 p j : S256x256.Idx)
      = if p.val / 64 = j.val / 64 then U (Proc.devRef .tc main_v36) (ix2 (col64 p) (col64 j) : S64x64.Idx) else (0 : EReal) := by
  after_reads_at
  after_reads_at
  have key : ∀ w : Vec Ideal S64x64 .f32, (if h : p.val < 64 then
      pad S64x256 ![0, 0] ![0, 192] ![0, 0] w (constant (F := Ideal) S_ .f32 0#32) pads_S64x64_S64x256_000_01920 h_S_ (ix2 ⟨p.val, h⟩ j)
    else if h1 : p.val - 64 < 64 then
      pad S64x256 ![0, 64] ![0, 128] ![0, 0] w (constant (F := Ideal) S_ .f32 0#32) pads_S64x64_S64x256_000_641280 h_S_ (ix2 ⟨p.val - 64, h1⟩ j)
    else if h2 : p.val - 64 - 64 < 64 then
      pad S64x256 ![0, 128] ![0, 64] ![0, 0] w (constant (F := Ideal) S_ .f32 0#32) pads_S64x64_S64x256_000_128640 h_S_ (ix2 ⟨p.val - 64 - 64, h2⟩ j)
    else
      pad S64x256 ![0, 192] ![0, 0] ![0, 0] w (constant (F := Ideal) S_ .f32 0#32) pads_S64x64_S64x256_000_19200 h_S_ (ix2 ⟨p.val - 64 - 64 - 64, by omega⟩ j))
      = if p.val / 64 = j.val / 64 then w (ix2 (col64 p) (col64 j)) else (0 : EReal) := by
    intro w
    pointwise
    unfold col64
    split_ifs <;> first
      | rfl
      | omega
      | exact congrArg₂ (fun q r => w (ix2 q r)) (Fin.ext (by simp only; omega)) (Fin.ext (by simp only; omega))
  exact key _

/-- The third stretch leaves the scaled bias of the second layer four times. -/
theorem bias1_apply (j : Fin 256) :
    StableHlo.after (hostOps0_2 (F := Ideal)) U (Proc.devRef .tc main_v43) (ix2 0 j : S1x256.Idx)
      = c01 * U (Proc.devRef .tc main_arg9) (ix1 (col64 j) : S64.Idx) := by
  after_reads_at
  rfl

/-- It leaves the first decoder's bias as a row. -/
theorem biasDec_apply (l : Fin 64) :
    StableHlo.after (hostOps0_2 (F := Ideal)) U (Proc.devRef .tc main_v44) (ix2 0 l : S1x64.Idx)
      = U (Proc.devRef .tc main_arg5) (ix1 l : S64.Idx) := by
  after_reads_at

/-- It leaves the last layer's weights of the decoded features, transposed. -/
theorem w2x_apply (l k : Fin 64) :
    StableHlo.after (hostOps0_2 (F := Ideal)) U (Proc.devRef .tc main_v46) (ix2 l k : S64x64.Idx)
      = U (Proc.devRef .tc main_arg10) (ix2 k ⟨l.val, by omega⟩ : S64x67.Idx) := by
  after_reads_at

/-- It leaves the last layer's weights of the position, transposed. -/
theorem w2p_apply (t : Fin 3) (k : Fin 64) :
    StableHlo.after (hostOps0_2 (F := Ideal)) U (Proc.devRef .tc main_v48) (ix2 t k : S3x64.Idx)
      = U (Proc.devRef .tc main_arg10) (ix2 k ⟨64 + t.val, by omega⟩ : S64x67.Idx) := by
  after_reads_at

/-- It leaves the last layer's bias of the decoded features as a column. -/
theorem b2x_apply (l : Fin 64) :
    StableHlo.after (hostOps0_2 (F := Ideal)) U (Proc.devRef .tc main_v50) (ix2 l 0 : S64x1.Idx)
      = U (Proc.devRef .tc main_arg11) (ix1 ⟨l.val, by omega⟩ : S67.Idx) := by
  after_reads_at

/-- It leaves the last layer's bias of the position as a column. -/
theorem b2p_apply (t : Fin 3) :
    StableHlo.after (hostOps0_2 (F := Ideal)) U (Proc.devRef .tc main_v52) (ix2 t 0 : S3x1.Idx)
      = U (Proc.devRef .tc main_arg11) (ix1 ⟨64 + t.val, by omega⟩ : S67.Idx) := by
  after_reads_at

end Cert.Proof.Ker

end
-- ==== Proof.KHost1.lean ====
/- What the kernel's host operations leave between the node stage and the edge stage, at an index. -/
module

public import proofs.«01_k».proof.Proof.Gen.KernelIdeal.Frame
public import proofs.«01_k».proof.Proof.KArr
public import Idealize.ShloMosaic.Lib.Pointwise
public import Idealize.ShloMosaic.Lib.StableHlo.ReadAt

@[expose] public section

set_option maxRecDepth 16384

noncomputable section

namespace Cert.Proof.Ker

open Cert.KernelIdeal Cert.KernelIdeal.Gen Idealize.ShloMosaic Idealize.ShloMosaic.TcCoe
open Cert.Proof

variable (U : Valuation τ sig (Elt Ideal))

/-- The buffers after the stretches that form the features from the differences of positions. -/
abbrev mid : Valuation τ sig (Elt Ideal) :=
  (StableHlo.after (hostOps1_18 (F := Ideal)) (StableHlo.after (hostOps1_17 (F := Ideal)) (StableHlo.after (hostOps1_16 (F := Ideal)) (StableHlo.after (hostOps1_15 (F := Ideal)) (StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) U))))))))))))))))))

/-- The start words of a gather at an edge: a negative word counts from the end. -/
theorem word_apply (d : IVec S160000 32) (e : Fin 160000) :
    broadcastInDim S160000x1 ![0] bcast_S160000_S160000x1_0
      (select (cmpi .slt d (broadcastInDim S160000 ![] bcast_S_S160000 (constantI S_ 32 0#32)))
        (addi d (broadcastInDim S160000 ![] bcast_S_S160000 (constantI S_ 32 10000#32))) d) (ix2 e (0 : Fin 1))
      = wrapWord (d (ix1 e)) := by
  pointwise
  rfl

/-- The first stretch leaves the differences of positions. -/
theorem rel_apply (e : Fin 160000) (t : Fin 3) :
    StableHlo.after (hostOps1 (F := Ideal)) U (Proc.devRef .tc main_v68) (ix2 e t : S160000x3.Idx)
      = relK (U (Proc.devRef .tc main_v0)) (U (Proc.devRef .tc main_v5)) (U (Proc.devRef .tc main_v3)) e t := by
  after_reads_at
  erw [gather_rows, gather_rows, word_apply, word_apply]
  rfl

/-- It leaves their squared lengths. -/
theorem sq_apply (e : Fin 160000) :
    StableHlo.after (hostOps1 (F := Ideal)) U (Proc.devRef .tc main_v70) (ix1 e : S160000.Idx)
      = sqS (relK (U (Proc.devRef .tc main_v0)) (U (Proc.devRef .tc main_v5)) (U (Proc.devRef .tc main_v3)) e) := by
  after_reads_at
  refine Finset.sum_congr rfl fun t _ => congrArg (fun q : EReal => q * q) ?_
  erw [gather_rows, gather_rows, word_apply, word_apply]
  rfl

/-- It leaves whether they are positive. -/
theorem mask_apply (e : Fin 160000) :
    StableHlo.after (hostOps1 (F := Ideal)) U (Proc.devRef .tc main_v72) (ix1 e : S160000.Idx)
      = maskS (relK (U (Proc.devRef .tc main_v0)) (U (Proc.devRef .tc main_v5)) (U (Proc.devRef .tc main_v3)) e) := by
  after_reads_at
  refine congrArg (fun q => FloatOps.cmpf (F := Ideal) (φ := .f32) .ogt q (0 : EReal)) (Finset.sum_congr rfl fun t _ =>
    congrArg (fun q : EReal => q * q) ?_)
  erw [gather_rows, gather_rows, word_apply, word_apply]
  rfl

/-- It leaves the constant one. -/
theorem one_apply : StableHlo.after (hostOps1 (F := Ideal)) U (Proc.devRef .tc main_cst_10) (ix0 : S_.Idx) = (1 : EReal) := by
  after_reads_at

section mid

variable (r : Fin 3 → EReal) (e : Fin 160000)
  (hr : ∀ t, U (Proc.devRef .tc main_v68) (ix2 e t : S160000x3.Idx) = r t)
  (hs : U (Proc.devRef .tc main_v70) (ix1 e : S160000.Idx) = sqS r)
  (hm : U (Proc.devRef .tc main_v72) (ix1 e : S160000.Idx) = maskS r)
  (h1 : U (Proc.devRef .tc main_cst_10) (ix0 : S_.Idx) = (1 : EReal))

include hr hs hm h1

/-- The first column is the length. -/
theorem rho_apply : mid U (Proc.devRef .tc main_v101) (ix2 e 0 : S160000x4.Idx) = rhoS r := by
  after_reads_at
  after_reads_at
  simp only [id_eq]
  pointwise
  rw [hm, hs, h1]
  rfl

/-- The second column is the angle in the plane. -/
theorem theta_apply : mid U (Proc.devRef .tc main_v101) (ix2 e 1 : S160000x4.Idx) = thetaS r := by
  after_reads_at
  after_reads_at
  simp only [id_eq]
  pointwise
  rw [hm, hr, hr]
  rfl

/-- The third column is the elevation. -/
theorem phi_apply : mid U (Proc.devRef .tc main_v101) (ix2 e 2 : S160000x4.Idx) = phiS r := by
  after_reads_at
  after_reads_at
  simp only [id_eq]
  pointwise
  rw [hm, hs, h1, hr]
  rfl

/-- The fourth column is zero. -/
theorem none_apply : mid U (Proc.devRef .tc main_v101) (ix2 e 3 : S160000x4.Idx) = (0 : EReal) := by
  after_reads_at
  after_reads_at

/-- The four columns are the three features and a zero. -/
theorem columns_apply (k : Fin 4) : mid U (Proc.devRef .tc main_v101) (ix2 e k : S160000x4.Idx)
    = if h : k.val < 3 then featS r ⟨k.val, h⟩ else (0 : EReal) := by
  match k with
  | ⟨0, _⟩ => exact rho_apply U r e hr hs hm h1
  | ⟨1, _⟩ => exact theta_apply U r e hr hs hm h1
  | ⟨2, _⟩ => exact phi_apply U r e hr hs hm h1
  | ⟨3, _⟩ => exact none_apply U r e hr hs hm h1

end mid

/-- The features that the edge stage reads, from the positions and the words of the edges. -/
theorem feat_apply (e : Fin 160000) (k : Fin 4) :
    mid (StableHlo.after (hostOps1 (F := Ideal)) U) (Proc.devRef .tc main_v101) (ix2 e k : S160000x4.Idx)
      = if h : k.val < 3 then
          featS (relK (U (Proc.devRef .tc main_v0)) (U (Proc.devRef .tc main_v5)) (U (Proc.devRef .tc main_v3)) e) ⟨k.val, h⟩
        else (0 : EReal) :=
  columns_apply _ _ e (rel_apply U e) (sq_apply U e) (mask_apply U e) (one_apply U) k

/-- The last stretch leaves the messages summed by target. -/
theorem agg_apply (n : Fin 10000) (k : Fin 64) :
    StableHlo.after (hostOps2 (F := Ideal)) U (Proc.devRef .tc main_v127) (ix2 n k : S10000x64.Idx)
      = aggK (U (Proc.devRef .tc main_v5)) (U (Proc.devRef .tc main_v124)) n k := by
  after_reads_at
  erw [scatter_rows]
  pointwise
  rfl

/-- It leaves the second layer at a loop, transposed. -/
theorem selfT_apply (k c : Fin 64) :
    StableHlo.after (hostOps2 (F := Ideal)) U (Proc.devRef .tc main_v128) (ix2 k c : S64x64.Idx)
      = U (Proc.devRef .tc main_v32) (ix2 c k : S64x64.Idx) := by
  after_reads_at

/-- It leaves the last decoder's bias as a row. -/
theorem biasOut_apply (j : Fin 4) :
    StableHlo.after (hostOps2 (F := Ideal)) U (Proc.devRef .tc main_v129) (ix2 0 j : S1x4.Idx)
      = U (Proc.devRef .tc main_arg14) (ix1 j : S4.Idx) := by
  after_reads_at

/-- The stretch before the edge stage leaves the scaled weights of the three features, and a row of zeros. -/
theorem w0_apply (t : Fin 4) (k : Fin 64) :
    StableHlo.after (hostOps1_18 (F := Ideal)) U (Proc.devRef .tc main_v106) (ix2 t k : S4x64.Idx)
      = if t.val < 3 then c01 * U (Proc.devRef .tc main_arg6) (ix2 t k : S4x64.Idx) else (0 : EReal) := by
  after_reads_at
  rfl

/-- It leaves the scaled bias of the first layer as a row. -/
theorem b0_apply (k : Fin 64) :
    StableHlo.after (hostOps1_18 (F := Ideal)) U (Proc.devRef .tc main_v109) (ix2 0 k : S1x64.Idx)
      = c01 * U (Proc.devRef .tc main_arg7) (ix1 k : S64.Idx) := by
  after_reads_at

/-- It leaves the node stage's first result at each edge's source. -/
theorem z_apply (e : Fin 160000) (k : Fin 64) :
    StableHlo.after (hostOps1_18 (F := Ideal)) U (Proc.devRef .tc main_v116) (ix2 e k : S160000x64.Idx)
      = U (Proc.devRef .tc main_v53_0) (ix2 (wrapRow (U (Proc.devRef .tc main_v3) (ix1 e : S160000.Idx))) k : S10000x64.Idx) := by
  after_reads_at
  erw [gather_rows, word_apply]
  rfl

/-- It leaves the node stage's second result at each edge's source. -/
theorem s_apply (e : Fin 160000) :
    StableHlo.after (hostOps1_18 (F := Ideal)) U (Proc.devRef .tc main_v123) (ix2 e 0 : S160000x1.Idx)
      = U (Proc.devRef .tc main_v53_1) (ix2 (wrapRow (U (Proc.devRef .tc main_v3) (ix1 e : S160000.Idx))) 0 : S10000x1.Idx) := by
  after_reads_at
  erw [gather_rows, word_apply]
  rfl

end Cert.Proof.Ker

end
-- ==== Proof.KNode.lean ====
/- What the node stage and the final stage leave in their result arrays, from the arrays they are entered with. -/
module

public import proofs.«01_k».proof.Proof.Gen.KernelIdeal.Frame
public import proofs.«01_k».proof.Proof.KSpec
public import Idealize.ShloMosaic.Lib.Pointwise
public import Idealize.ShloMosaic.Lib.Pipeline.ValueKit

@[expose] public section

set_option maxRecDepth 16384

noncomputable section

namespace Cert.Proof.Ker

open Cert.KernelIdeal Cert.KernelIdeal.Gen Idealize.ShloMosaic Idealize.ShloMosaic.TcCoe
open Cert.Proof

/-- A row of the node stage's first payload. -/
theorem pay3_apply (v0 : FVec Ideal S2000x32 .f32) (v1 : FVec Ideal S32x64 .f32) (v3 : FVec Ideal S1x64 .f32)
    (v10 : FVec Ideal S2000x3 .f32) (v12 : FVec Ideal S64x64 .f32) (v15 : FVec Ideal S3x64 .f32) (n : Fin 2000) (k : Fin 64) :
    k0_pay3 (F := Ideal) v0 v1 v3 v10 v12 v15 (ix2 n k) = zK v0 v10 v1 v3 v12 v15 n k := by
  pointwise [k0_pay1, k0_pay2, k0_pay3, zK, xK]

/-- A row of its second payload. -/
theorem pay4_apply (v0 : FVec Ideal S2000x32 .f32) (v1 : FVec Ideal S32x64 .f32) (v3 : FVec Ideal S1x64 .f32)
    (v10 : FVec Ideal S2000x3 .f32) (v20 : FVec Ideal S64x1 .f32) (v23 : FVec Ideal S3x1 .f32) (n : Fin 2000) (k : Fin 1) :
    k0_pay4 (F := Ideal) v0 v1 v3 v10 v20 v23 (ix2 n k) = zK v0 v10 v1 v3 v20 v23 n k := by
  pointwise [k0_pay1, k0_pay2, k0_pay4, zK, xK]

/-- A row of the final stage's payload. -/
theorem payOut_apply (v0 : FVec Ideal S2000x64 .f32) (v2 : FVec Ideal S64x64 .f32) (v5 : FVec Ideal S2000x64 .f32)
    (v8 : FVec Ideal S2000x1 .f32) (v12 : FVec Ideal S1x64 .f32) (v18 : FVec Ideal S64x4 .f32) (v20 : FVec Ideal S1x4 .f32)
    (n : Fin 2000) (j : Fin 4) :
    k2_pay1 (F := Ideal) v0 v2 v5 v8 v12 v18 v20 (ix2 n j) = oK v5 v0 v8 v2 v12 v18 v20 n j := by
  pointwise [k2_pay1, oK]

variable (V : (c : Dev nD) → (b : Ref sig .tc) → Buf (Elt Ideal) ((c : Thread nD τ).loc b))

/-- Row `n` of the `q`-th block of 2000 node rows. -/
def nodeRow (q : Fin 5) (n : Fin 2000) : Fin 10000 := ⟨q.val * 2000 + n.val, by omega⟩

/-- Where input window 0 of region 0 reads. -/
theorem at0_0 (t : Fin cfg0.N) : win0_0.index t = ![(grid0.coords t 0).val, 0] :=
  (by decide +kernel : ∀ t : Fin grid0.N, win0_0.index t = ![(grid0.coords t 0).val, 0]) t

/-- Its block at a point, at a row. -/
theorem in0_0 (c : Dev nD) (t : Fin cfg0.N) (n : Fin 2000) (k : Fin 32) :
    iblk0 V c 0 t (ix2 n k) = V c main_arg0 (ix2 (nodeRow (grid0.coords t 0) n) k) := by
  blk_simp [iblk0]
  refine congrArg (V c main_arg0) ?_
  blk_ext [at0_0, nodeRow]

/-- Where input window 1 of region 0 reads. -/
theorem at0_1 (t : Fin cfg0.N) : win0_1.index t = ![(grid0.coords t 0).val, 0] :=
  (by decide +kernel : ∀ t : Fin grid0.N, win0_1.index t = ![(grid0.coords t 0).val, 0]) t

/-- Its block at a point, at a row. -/
theorem in0_1 (c : Dev nD) (t : Fin cfg0.N) (n : Fin 2000) (k : Fin 3) :
    iblk0 V c 1 t (ix2 n k) = V c main_v0 (ix2 (nodeRow (grid0.coords t 0) n) k) := by
  blk_simp [iblk0]
  refine congrArg (V c main_v0) ?_
  blk_ext [at0_1, nodeRow]

/-- Where input window 2 of region 0 reads. -/
theorem at0_2 (t : Fin cfg0.N) : win0_2.index t = ![0, 0] :=
  (by decide +kernel : ∀ t : Fin grid0.N, win0_2.index t = ![0, 0]) t

/-- Its block at a point is the whole array. -/
theorem in0_2 (c : Dev nD) (t : Fin cfg0.N) : iblk0 V c 2 t = V c main_arg4 := by
  funext y
  blk_simp [iblk0]
  refine congrArg (V c main_arg4) ?_
  blk_ext [at0_2]

/-- Where input window 3 of region 0 reads. -/
theorem at0_3 (t : Fin cfg0.N) : win0_3.index t = ![0, 0] :=
  (by decide +kernel : ∀ t : Fin grid0.N, win0_3.index t = ![0, 0]) t

/-- Its block at a point is the whole array. -/
theorem in0_3 (c : Dev nD) (t : Fin cfg0.N) : iblk0 V c 3 t = V c main_v44 := by
  funext y
  blk_simp [iblk0]
  refine congrArg (V c main_v44) ?_
  blk_ext [at0_3]

/-- Where input window 4 of region 0 reads. -/
theorem at0_4 (t : Fin cfg0.N) : win0_4.index t = ![0, 0] :=
  (by decide +kernel : ∀ t : Fin grid0.N, win0_4.index t = ![0, 0]) t

/-- Its block at a point is the whole array. -/
theorem in0_4 (c : Dev nD) (t : Fin cfg0.N) : iblk0 V c 4 t = V c main_v46 := by
  funext y
  blk_simp [iblk0]
  refine congrArg (V c main_v46) ?_
  blk_ext [at0_4]

/-- Where input window 5 of region 0 reads. -/
theorem at0_5 (t : Fin cfg0.N) : win0_5.index t = ![0, 0] :=
  (by decide +kernel : ∀ t : Fin grid0.N, win0_5.index t = ![0, 0]) t

/-- Its block at a point is the whole array. -/
theorem in0_5 (c : Dev nD) (t : Fin cfg0.N) : iblk0 V c 5 t = V c main_v48 := by
  funext y
  blk_simp [iblk0]
  refine congrArg (V c main_v48) ?_
  blk_ext [at0_5]

/-- Where input window 6 of region 0 reads. -/
theorem at0_6 (t : Fin cfg0.N) : win0_6.index t = ![0, 0] :=
  (by decide +kernel : ∀ t : Fin grid0.N, win0_6.index t = ![0, 0]) t

/-- Its block at a point is the whole array. -/
theorem in0_6 (c : Dev nD) (t : Fin cfg0.N) : iblk0 V c 6 t = V c main_v50 := by
  funext y
  blk_simp [iblk0]
  refine congrArg (V c main_v50) ?_
  blk_ext [at0_6]

/-- Where input window 7 of region 0 reads. -/
theorem at0_7 (t : Fin cfg0.N) : win0_7.index t = ![0, 0] :=
  (by decide +kernel : ∀ t : Fin grid0.N, win0_7.index t = ![0, 0]) t

/-- Its block at a point is the whole array. -/
theorem in0_7 (c : Dev nD) (t : Fin cfg0.N) : iblk0 V c 7 t = V c main_v52 := by
  funext y
  blk_simp [iblk0]
  refine congrArg (V c main_v52) ?_
  blk_ext [at0_7]

/-- Where output window 8 of region 0 writes. -/
theorem at0_8 (t : Fin cfg0.N) : win0_8.index t = ![(grid0.coords t 0).val, 0] :=
  (by decide +kernel : ∀ t : Fin grid0.N, win0_8.index t = ![(grid0.coords t 0).val, 0]) t

/-- A block of it, row by row. -/
theorem node_z_blk (c : Dev nD) (t : Fin cfg0.N) (y : (⟨2, ![2000, 64]⟩ : Shape).Idx) :
    k0_pay3 (F := Ideal) (iblk0 V c 0 t) (iblk0 V c 2 t) (iblk0 V c 3 t) (iblk0 V c 1 t) (iblk0 V c 4 t) (iblk0 V c 5 t) y
      = zK (V c main_arg0) (V c main_v0) (V c main_arg4) (V c main_v44) (V c main_v46) (V c main_v48) (nodeRow (grid0.coords t 0) (y 0)) (y 1) := by
  obtain ⟨n, k, rfl⟩ : ∃ n k, y = ix2 n k := ⟨_, _, eq_ix2 y⟩
  rw [pay3_apply]
  simp only [zK, xK, in0_0, in0_1, in0_2, in0_3, in0_4, in0_5, in0_6, in0_7]
  rfl

/-- The node stage leaves every node's row against the last layer's weights. -/
theorem node_z (c : Dev nD) : (dat0 V c).arrAt 8 cfg0.N = fun i : (⟨2, ![10000, 64]⟩ : Shape).Idx =>
    zK (V c main_arg0) (V c main_v0) (V c main_arg4) (V c main_v44) (V c main_v46) (V c main_v48) (i 0) (i 1) := by
  refine (dat0 V c).arrAt_eq_of_covers 8 _ (by decide +kernel) fun t hf y => ?_
  blk_simp
  rw [after0_8]; frame_out
  refine (node_z_blk V c t y).trans ?_
  refine congrArg₂ (zK (V c main_arg0) (V c main_v0) (V c main_arg4) (V c main_v44) (V c main_v46) (V c main_v48)) (Fin.ext ?_) (Fin.ext ?_)
  · blk_simp [at0_8, nodeRow]
  · blk_simp [at0_8, nodeRow]

/-- Where output window 9 of region 0 writes. -/
theorem at0_9 (t : Fin cfg0.N) : win0_9.index t = ![(grid0.coords t 0).val, 0] :=
  (by decide +kernel : ∀ t : Fin grid0.N, win0_9.index t = ![(grid0.coords t 0).val, 0]) t

/-- A block of it, row by row. -/
theorem node_s_blk (c : Dev nD) (t : Fin cfg0.N) (y : (⟨2, ![2000, 1]⟩ : Shape).Idx) :
    k0_pay4 (F := Ideal) (iblk0 V c 0 t) (iblk0 V c 2 t) (iblk0 V c 3 t) (iblk0 V c 1 t) (iblk0 V c 6 t) (iblk0 V c 7 t) y
      = zK (V c main_arg0) (V c main_v0) (V c main_arg4) (V c main_v44) (V c main_v50) (V c main_v52) (nodeRow (grid0.coords t 0) (y 0)) (y 1) := by
  obtain ⟨n, k, rfl⟩ : ∃ n k, y = ix2 n k := ⟨_, _, eq_ix2 y⟩
  rw [pay4_apply]
  simp only [zK, xK, in0_0, in0_1, in0_2, in0_3, in0_4, in0_5, in0_6, in0_7]
  rfl

/-- The node stage leaves every node's row against its last layer's biases. -/
theorem node_s (c : Dev nD) : (dat0 V c).arrAt 9 cfg0.N = fun i : (⟨2, ![10000, 1]⟩ : Shape).Idx =>
    zK (V c main_arg0) (V c main_v0) (V c main_arg4) (V c main_v44) (V c main_v50) (V c main_v52) (i 0) (i 1) := by
  refine (dat0 V c).arrAt_eq_of_covers 9 _ (by decide +kernel) fun t hf y => ?_
  blk_simp
  rw [after0_9]; frame_out
  refine (node_s_blk V c t y).trans ?_
  refine congrArg₂ (zK (V c main_arg0) (V c main_v0) (V c main_arg4) (V c main_v44) (V c main_v50) (V c main_v52)) (Fin.ext ?_) (Fin.ext ?_)
  · blk_simp [at0_9, nodeRow]
  · blk_simp [at0_9, nodeRow]

/-- Where input window 0 of region 2 reads. -/
theorem at2_0 (t : Fin cfg2.N) : win2_0.index t = ![(grid2.coords t 0).val, 0] :=
  (by decide +kernel : ∀ t : Fin grid2.N, win2_0.index t = ![(grid2.coords t 0).val, 0]) t

/-- Its block at a point, at a row. -/
theorem in2_0 (c : Dev nD) (t : Fin cfg2.N) (n : Fin 2000) (k : Fin 64) :
    iblk2 V c 0 t (ix2 n k) = V c main_v127 (ix2 (nodeRow (grid2.coords t 0) n) k) := by
  blk_simp [iblk2]
  refine congrArg (V c main_v127) ?_
  blk_ext [at2_0, nodeRow]

/-- Where input window 1 of region 2 reads. -/
theorem at2_1 (t : Fin cfg2.N) : win2_1.index t = ![(grid2.coords t 0).val, 0] :=
  (by decide +kernel : ∀ t : Fin grid2.N, win2_1.index t = ![(grid2.coords t 0).val, 0]) t

/-- Its block at a point, at a row. -/
theorem in2_1 (c : Dev nD) (t : Fin cfg2.N) (n : Fin 2000) (k : Fin 64) :
    iblk2 V c 1 t (ix2 n k) = V c main_v53_0 (ix2 (nodeRow (grid2.coords t 0) n) k) := by
  blk_simp [iblk2]
  refine congrArg (V c main_v53_0) ?_
  blk_ext [at2_1, nodeRow]

/-- Where input window 2 of region 2 reads. -/
theorem at2_2 (t : Fin cfg2.N) : win2_2.index t = ![(grid2.coords t 0).val, 0] :=
  (by decide +kernel : ∀ t : Fin grid2.N, win2_2.index t = ![(grid2.coords t 0).val, 0]) t

/-- Its block at a point, at a row. -/
theorem in2_2 (c : Dev nD) (t : Fin cfg2.N) (n : Fin 2000) (k : Fin 1) :
    iblk2 V c 2 t (ix2 n k) = V c main_v53_1 (ix2 (nodeRow (grid2.coords t 0) n) k) := by
  blk_simp [iblk2]
  refine congrArg (V c main_v53_1) ?_
  blk_ext [at2_2, nodeRow]

/-- Where input window 3 of region 2 reads. -/
theorem at2_3 (t : Fin cfg2.N) : win2_3.index t = ![0, 0] :=
  (by decide +kernel : ∀ t : Fin grid2.N, win2_3.index t = ![0, 0]) t

/-- Its block at a point is the whole array. -/
theorem in2_3 (c : Dev nD) (t : Fin cfg2.N) : iblk2 V c 3 t = V c main_v128 := by
  funext y
  blk_simp [iblk2]
  refine congrArg (V c main_v128) ?_
  blk_ext [at2_3]

/-- Where input window 4 of region 2 reads. -/
theorem at2_4 (t : Fin cfg2.N) : win2_4.index t = ![0, 0] :=
  (by decide +kernel : ∀ t : Fin grid2.N, win2_4.index t = ![0, 0]) t

/-- Its block at a point is the whole array. -/
theorem in2_4 (c : Dev nD) (t : Fin cfg2.N) : iblk2 V c 4 t = V c main_arg12 := by
  funext y
  blk_simp [iblk2]
  refine congrArg (V c main_arg12) ?_
  blk_ext [at2_4]

/-- Where input window 5 of region 2 reads. -/
theorem at2_5 (t : Fin cfg2.N) : win2_5.index t = ![0, 0] :=
  (by decide +kernel : ∀ t : Fin grid2.N, win2_5.index t = ![0, 0]) t

/-- Its block at a point is the whole array. -/
theorem in2_5 (c : Dev nD) (t : Fin cfg2.N) : iblk2 V c 5 t = V c main_arg13 := by
  funext y
  blk_simp [iblk2]
  refine congrArg (V c main_arg13) ?_
  blk_ext [at2_5]

/-- Where input window 6 of region 2 reads. -/
theorem at2_6 (t : Fin cfg2.N) : win2_6.index t = ![0, 0] :=
  (by decide +kernel : ∀ t : Fin grid2.N, win2_6.index t = ![0, 0]) t

/-- Its block at a point is the whole array. -/
theorem in2_6 (c : Dev nD) (t : Fin cfg2.N) : iblk2 V c 6 t = V c main_v129 := by
  funext y
  blk_simp [iblk2]
  refine congrArg (V c main_v129) ?_
  blk_ext [at2_6]

/-- Where output window 7 of region 2 writes. -/
theorem at2_7 (t : Fin cfg2.N) : win2_7.index t = ![(grid2.coords t 0).val, 0] :=
  (by decide +kernel : ∀ t : Fin grid2.N, win2_7.index t = ![(grid2.coords t 0).val, 0]) t

/-- A block of it, row by row. -/
theorem final_o_blk (c : Dev nD) (t : Fin cfg2.N) (y : (⟨2, ![2000, 4]⟩ : Shape).Idx) :
    k2_pay1 (F := Ideal) (iblk2 V c 1 t) (iblk2 V c 3 t) (iblk2 V c 0 t) (iblk2 V c 2 t) (iblk2 V c 4 t) (iblk2 V c 5 t) (iblk2 V c 6 t) y
      = oK (V c main_v127) (V c main_v53_0) (V c main_v53_1) (V c main_v128) (V c main_arg12) (V c main_arg13) (V c main_v129) (nodeRow (grid2.coords t 0) (y 0)) (y 1) := by
  obtain ⟨n, k, rfl⟩ : ∃ n k, y = ix2 n k := ⟨_, _, eq_ix2 y⟩
  rw [payOut_apply]
  simp only [oK, in2_0, in2_1, in2_2, in2_3, in2_4, in2_5, in2_6]
  rfl

/-- The final stage leaves every node's decoded row. -/
theorem final_o (c : Dev nD) : (dat2 V c).arrAt 7 cfg2.N = fun i : (⟨2, ![10000, 4]⟩ : Shape).Idx =>
    oK (V c main_v127) (V c main_v53_0) (V c main_v53_1) (V c main_v128) (V c main_arg12) (V c main_arg13) (V c main_v129) (i 0) (i 1) := by
  refine (dat2 V c).arrAt_eq_of_covers 7 _ (by decide +kernel) fun t hf y => ?_
  blk_simp
  rw [after2_7]; frame_out
  refine (final_o_blk V c t y).trans ?_
  refine congrArg₂ (oK (V c main_v127) (V c main_v53_0) (V c main_v53_1) (V c main_v128) (V c main_arg12) (V c main_arg13) (V c main_v129)) (Fin.ext ?_) (Fin.ext ?_)
  · blk_simp [at2_7, nodeRow]
  · blk_simp [at2_7, nodeRow]

end Cert.Proof.Ker

end
-- ==== Proof.KEdge.lean ====
/- What the edge stage leaves in its result array, from the arrays it is entered with. -/
module

public import proofs.«01_k».proof.Proof.Gen.KernelIdeal.Frame
public import proofs.«01_k».proof.Proof.KSpec
public import Idealize.ShloMosaic.Lib.Pointwise
public import Idealize.ShloMosaic.Lib.Pipeline.ValueKit

@[expose] public section

set_option maxRecDepth 16384

noncomputable section

namespace Cert.Proof.Ker

open Cert.KernelIdeal Cert.KernelIdeal.Gen Idealize.ShloMosaic Idealize.ShloMosaic.TcCoe
open Cert.Proof

/-- Four copies of 64 columns, read at a column. -/
theorem cat4_apply (v : FVec Ideal S2000x64 .f32) (n : Fin 2000) (p : Fin 256) :
    concatenate S2000x256 1 [⟨S2000x64, v⟩, ⟨S2000x64, v⟩, ⟨S2000x64, v⟩, ⟨S2000x64, v⟩]
      concatenates_S2000x64_S2000x64_S2000x64_S2000x64_S2000x256_d1 (ix2 n p) = v (ix2 n (col64 p)) := by
  pointwise
  have h (a : Fin 64) (e : a.val = p.val % 64) : v (ix2 n a) = v (ix2 n (col64 p)) :=
    congrArg (fun a => v (ix2 n a)) (Fin.ext e)
  split
  · exact h _ (by simp; omega)
  split
  · exact h _ (by simp; omega)
  split
  · exact h _ (by simp; omega)
  · exact h _ (by simp; omega)

/-- One group of four channels, as the stage computes it. -/
def grp (v13 v14 v15 : FVec Ideal S2000x256 .f32) (c s : FVec Ideal S1x256 .f32) (w : FVec Ideal S256x256 .f32)
    (b : FVec Ideal S1x256 .f32) : FVec Ideal S2000x256 .f32 :=
  mulf (sin (addf (matmul dot_S2000x256_S256x256_S2000x256_1_0_0_1_n_n none
    (addf (mulf v13 (broadcastTo S2000x256 (shapeCast S1x256 c shapeCasts_S1x256_S1x256) broadcasts_S1x256_S2000x256))
      (mulf v14 (broadcastTo S2000x256 (shapeCast S1x256 s shapeCasts_S1x256_S1x256) broadcasts_S1x256_S2000x256)))
    (shapeCast S256x256 w shapeCasts_S256x256_S256x256) (constant S2000x256 .f32 0x00000000#32))
    (broadcastTo S2000x256 (shapeCast S1x256 b shapeCasts_S1x256_S1x256) broadcasts_S1x256_S2000x256))) v15

/-- It, at a row and column. -/
theorem grp_apply (v13 v14 v15 : FVec Ideal S2000x256 .f32) (c s : FVec Ideal S1x256 .f32) (w : FVec Ideal S256x256 .f32)
    (b : FVec Ideal S1x256 .f32) (n : Fin 2000) (j : Fin 256) :
    grp v13 v14 v15 c s w b (ix2 n j)
      = Ideal.sin (∑ p, (v13 (ix2 n p) * c (ix2 0 p) + v14 (ix2 n p) * s (ix2 0 p)) * w (ix2 p j) + b (ix2 0 j)) * v15 (ix2 n j) := by
  pointwise [grp]

/-- Each of the four runs of 64 columns lies in a group. -/
theorem runs (q : Fin 4) : S2000x256.Slices ![0, 64 * q.val] S2000x64 := by
  revert q; decide +kernel

/-- A run of 64 columns of a group, summed along them. -/
def run64 (q : Fin 4) (v : FVec Ideal S2000x256 .f32) : FVec Ideal S2000x1 .f32 :=
  shapeCast S2000x1 (multiReduction .add [1] S2000 (extractStridedSlice S2000x64 ![0, 64 * q.val] v (runs q)) 0x00000000#32
    reduces_S2000x64_S2000 (.inl rfl) rfl) shapeCasts_S2000_S2000x1

/-- It, at a row. -/
theorem run64_apply (q : Fin 4) (v : FVec Ideal S2000x256 .f32) (n : Fin 2000) :
    run64 q v (ix2 n 0) = ∑ k : Fin 64, v (ix2 n ⟨64 * q.val + k.val, by omega⟩) := by
  pointwise [run64]

/-- Sixty-four columns side by side, read at a column. -/
theorem cat64_apply (f : Fin 64 → FVec Ideal S2000x1 .f32) (h) (n : Fin 2000) (c : Fin 64) :
    concatenate S2000x64 1 (List.ofFn fun c => (⟨S2000x1, f c⟩ : (s : Shape) × (s.Idx → Ideal .f32))) h (ix2 n c)
      = f c (ix2 n 0) := by
  pointwise

/-- Row `g` of the sixteen, a row of its own. -/
theorem rowIn (g : Fin 16) : ∀ a, (![g.val, 0] : Fin 2 → ℕ) a + S1x256.size a ≤ S16x256.size a := by
  revert g; decide

/-- Row `g` of a table of sixteen. -/
abbrev rowAt (g : Fin 16) : Rect S16x256 := Rect.unit (s := S16x256) ![g.val, 0] S1x256.size (rowIn g)

/-- Group `g` of the stage, from its input blocks. -/
def grpAt (x0 : Vec Ideal S2000x4 .f32) (x1 : Vec Ideal S2000x64 .f32) (x3 : Vec Ideal S4x64 .f32) (x4 : Vec Ideal S1x64 .f32)
    (x5 x6 : Vec Ideal S16x256 .f32) (x7 : Vec Ideal S256x256 .f32) (x8 : Vec Ideal S1x256 .f32) (g : Fin 16) :
    FVec Ideal S2000x256 .f32 :=
  grp (k1_pay3 (View.ld x0 r1_0) (View.ld x3 r1_1) (View.ld x4 r1_2)) (k1_pay4 (View.ld x0 r1_0) (View.ld x3 r1_1) (View.ld x4 r1_2))
    (k1_pay5 (View.ld x1 r1_3)) (View.ld x5 (rowAt g)) (View.ld x6 (rowAt g)) (View.ld x7 r1_5) (View.ld x8 r1_6)

/-- The part of a channel's group where its terms are. -/
def quad (c : Fin 64) : Fin 4 := ⟨c.val % 4, Nat.mod_lt _ (by decide)⟩

/-- Sixty-four columns of one fit side by side. -/
theorem fits64 (f : Fin 64 → Vec Ideal S2000x1 .f32) :
    Shape.Concatenates ((List.ofFn fun c => (⟨S2000x1, f c⟩ : (s : Shape) × (s.Idx → Ideal .f32))).map (·.1)) S2000x64 1 := by
  simp only [List.map_ofFn, Function.comp_def, List.ofFn_const]; decide +kernel

/-- The stage's result block is its 64 channels' columns, each the sum of its run of its group, beside the bias column. -/
theorem out_eq (x0 : Vec Ideal S2000x4 .f32) (x1 : Vec Ideal S2000x64 .f32) (x2 : Vec Ideal S2000x1 .f32)
    (x3 : Vec Ideal S4x64 .f32) (x4 : Vec Ideal S1x64 .f32)
    (x5 x6 : Vec Ideal S16x256 .f32) (x7 : Vec Ideal S256x256 .f32) (x8 : Vec Ideal S1x256 .f32) :
    out1_9 (F := Ideal) x0 x1 x2 x3 x4 x5 x6 x7 x8 = View.canon [⟨r1_3, k1_pay1
      (concatenate S2000x64 1 (List.ofFn fun c => (⟨S2000x1, run64 (quad c) (grpAt x0 x1 x3 x4 x5 x6 x7 x8 (grpOf c))⟩ :
        (s : Shape) × (s.Idx → Ideal .f32))) (fits64 _)) (k1_pay91 (View.ld x2 r1_22))⟩] := by
  unfold_out out1_9
  rfl

/-- Row `g` of a table of sixteen, read at a column. -/
theorem row_apply (x : Vec Ideal S16x256 .f32) (g : Fin 16) (p : Fin 256) :
    View.ld x (rowAt g) (ix2 0 p) = x (ix2 g p) := by
  refine View.ld_unit_apply_of x _ _ _ _ _ fun a => ?_
  fin_cases a
  · exact (Nat.add_zero _).symm
  · exact (Nat.zero_add _).symm

/-- The sines of the features' part, in four copies. -/
theorem sines_apply (x0 : Vec Ideal S2000x4 .f32) (x3 : Vec Ideal S4x64 .f32) (x4 : Vec Ideal S1x64 .f32) (n : Fin 2000) (p : Fin 256) :
    k1_pay3 (F := Ideal) x0 x3 x4 (ix2 n p) = Ideal.sin (baseK x0 x3 x4 n (col64 p)) := by
  unfold k1_pay3
  refine (cat4_apply _ n p).trans ?_
  pointwise [k1_pay2, baseK]

/-- The cosines of the features' part, in four copies. -/
theorem cosines_apply (x0 : Vec Ideal S2000x4 .f32) (x3 : Vec Ideal S4x64 .f32) (x4 : Vec Ideal S1x64 .f32) (n : Fin 2000) (p : Fin 256) :
    k1_pay4 (F := Ideal) x0 x3 x4 (ix2 n p) = Ideal.cos (baseK x0 x3 x4 n (col64 p)) := by
  unfold k1_pay4
  refine (cat4_apply _ n p).trans ?_
  pointwise [k1_pay2, baseK]

/-- The source node's row, in four copies. -/
theorem rows_apply (x1 : Vec Ideal S2000x64 .f32) (n : Fin 2000) (p : Fin 256) :
    k1_pay5 (F := Ideal) x1 (ix2 n p) = x1 (ix2 n (col64 p)) := by
  unfold k1_pay5
  refine (cat4_apply _ n p).trans ?_
  pointwise

/-- A group at a row and column. -/
theorem grpAt_apply (x0 : Vec Ideal S2000x4 .f32) (x1 : Vec Ideal S2000x64 .f32) (x3 : Vec Ideal S4x64 .f32) (x4 : Vec Ideal S1x64 .f32)
    (x5 x6 : Vec Ideal S16x256 .f32) (x7 : Vec Ideal S256x256 .f32) (x8 : Vec Ideal S1x256 .f32) (g : Fin 16)
    (n : Fin 2000) (j : Fin 256) :
    grpAt x0 x1 x3 x4 x5 x6 x7 x8 g (ix2 n j) = (grpK x0 x1 x3 x4 x5 x6 x7 x8 n g j : EReal) := by
  have e : grpAt x0 x1 x3 x4 x5 x6 x7 x8 g
      = grp (k1_pay3 x0 x3 x4) (k1_pay4 x0 x3 x4) (k1_pay5 x1) (View.ld x5 (rowAt g)) (View.ld x6 (rowAt g)) x7 x8 := by
    unfold grpAt
    congr 1 <;> first | rfl | (frame_out; try rfl)
  rw [e, grp_apply]
  simp only [sines_apply, cosines_apply, rows_apply]
  refine congrArg (fun u => Ideal.sin (u + x8 (ix2 0 j)) * x1 (ix2 n (col64 j))) (Finset.sum_congr rfl fun p _ => ?_)
  exact congrArg₂ (fun a b => (Ideal.sin (baseK x0 x3 x4 n (col64 p)) * a + Ideal.cos (baseK x0 x3 x4 n (col64 p)) * b) * x7 (ix2 p j))
    (row_apply x5 g p) (row_apply x6 g p)

/-- The bias column across the channels. -/
theorem bias_apply (x2 : Vec Ideal S2000x1 .f32) (n : Fin 2000) (c : Fin 64) :
    k1_pay91 (F := Ideal) x2 (ix2 n c) = x2 (ix2 n 0) := by
  pointwise [k1_pay91]

/-- The last addition. -/
theorem sum_apply (a b : FVec Ideal S2000x64 .f32) (n : Fin 2000) (c : Fin 64) :
    k1_pay1 (F := Ideal) a b (ix2 n c) = (a (ix2 n c) + b (ix2 n c) : EReal) := by
  pointwise [k1_pay1]

/-- The stage's result block at an edge and channel. -/
theorem out_apply (x0 : Vec Ideal S2000x4 .f32) (x1 : Vec Ideal S2000x64 .f32) (x2 : Vec Ideal S2000x1 .f32)
    (x3 : Vec Ideal S4x64 .f32) (x4 : Vec Ideal S1x64 .f32)
    (x5 x6 : Vec Ideal S16x256 .f32) (x7 : Vec Ideal S256x256 .f32) (x8 : Vec Ideal S1x256 .f32) (n : Fin 2000) (c : Fin 64) :
    out1_9 (F := Ideal) x0 x1 x2 x3 x4 x5 x6 x7 x8 (ix2 n c) = (eK x0 x1 x2 x3 x4 x5 x6 x7 x8 n c : EReal) := by
  rw [out_eq]
  frame_out
  rw [sum_apply, bias_apply, cat64_apply, run64_apply]
  simp only [grpAt_apply]
  rfl

variable (V : (c : Dev nD) → (b : Ref sig .tc) → Buf (Elt Ideal) ((c : Thread nD τ).loc b))

/-- Row `n` of the `q`-th block of 2000 edges. -/
def edgeRow (q : Fin 80) (n : Fin 2000) : Fin 160000 := ⟨q.val * 2000 + n.val, by omega⟩

/-- Where input window 0 of region 1 reads. -/
theorem at1_0 (t : Fin cfg1.N) : win1_0.index t = ![(grid1.coords t 0).val, 0] :=
  (by decide +kernel : ∀ t : Fin grid1.N, win1_0.index t = ![(grid1.coords t 0).val, 0]) t

/-- Its block at a point, at a row. -/
theorem in1_0 (c : Dev nD) (t : Fin cfg1.N) (n : Fin 2000) (k : Fin 4) :
    iblk1 V c 0 t (ix2 n k) = V c main_v101 (ix2 (edgeRow (grid1.coords t 0) n) k) := by
  blk_simp [iblk1]
  refine congrArg (V c main_v101) ?_
  blk_ext [at1_0, edgeRow]

/-- Where input window 1 of region 1 reads. -/
theorem at1_1 (t : Fin cfg1.N) : win1_1.index t = ![(grid1.coords t 0).val, 0] :=
  (by decide +kernel : ∀ t : Fin grid1.N, win1_1.index t = ![(grid1.coords t 0).val, 0]) t

/-- Its block at a point, at a row. -/
theorem in1_1 (c : Dev nD) (t : Fin cfg1.N) (n : Fin 2000) (k : Fin 64) :
    iblk1 V c 1 t (ix2 n k) = V c main_v116 (ix2 (edgeRow (grid1.coords t 0) n) k) := by
  blk_simp [iblk1]
  refine congrArg (V c main_v116) ?_
  blk_ext [at1_1, edgeRow]

/-- Where input window 2 of region 1 reads. -/
theorem at1_2 (t : Fin cfg1.N) : win1_2.index t = ![(grid1.coords t 0).val, 0] :=
  (by decide +kernel : ∀ t : Fin grid1.N, win1_2.index t = ![(grid1.coords t 0).val, 0]) t

/-- Its block at a point, at a row. -/
theorem in1_2 (c : Dev nD) (t : Fin cfg1.N) (n : Fin 2000) (k : Fin 1) :
    iblk1 V c 2 t (ix2 n k) = V c main_v123 (ix2 (edgeRow (grid1.coords t 0) n) k) := by
  blk_simp [iblk1]
  refine congrArg (V c main_v123) ?_
  blk_ext [at1_2, edgeRow]

/-- Where input window 3 of region 1 reads. -/
theorem at1_3 (t : Fin cfg1.N) : win1_3.index t = ![0, 0] :=
  (by decide +kernel : ∀ t : Fin grid1.N, win1_3.index t = ![0, 0]) t

/-- Its block at a point is the whole array. -/
theorem in1_3 (c : Dev nD) (t : Fin cfg1.N) : iblk1 V c 3 t = V c main_v106 := by
  funext y
  blk_simp [iblk1]
  refine congrArg (V c main_v106) ?_
  blk_ext [at1_3]

/-- Where input window 4 of region 1 reads. -/
theorem at1_4 (t : Fin cfg1.N) : win1_4.index t = ![0, 0] :=
  (by decide +kernel : ∀ t : Fin grid1.N, win1_4.index t = ![0, 0]) t

/-- Its block at a point is the whole array. -/
theorem in1_4 (c : Dev nD) (t : Fin cfg1.N) : iblk1 V c 4 t = V c main_v109 := by
  funext y
  blk_simp [iblk1]
  refine congrArg (V c main_v109) ?_
  blk_ext [at1_4]

/-- Where input window 5 of region 1 reads. -/
theorem at1_5 (t : Fin cfg1.N) : win1_5.index t = ![0, 0] :=
  (by decide +kernel : ∀ t : Fin grid1.N, win1_5.index t = ![0, 0]) t

/-- Its block at a point is the whole array. -/
theorem in1_5 (c : Dev nD) (t : Fin cfg1.N) : iblk1 V c 5 t = V c main_v33 := by
  funext y
  blk_simp [iblk1]
  refine congrArg (V c main_v33) ?_
  blk_ext [at1_5]

/-- Where input window 6 of region 1 reads. -/
theorem at1_6 (t : Fin cfg1.N) : win1_6.index t = ![0, 0] :=
  (by decide +kernel : ∀ t : Fin grid1.N, win1_6.index t = ![0, 0]) t

/-- Its block at a point is the whole array. -/
theorem in1_6 (c : Dev nD) (t : Fin cfg1.N) : iblk1 V c 6 t = V c main_v34 := by
  funext y
  blk_simp [iblk1]
  refine congrArg (V c main_v34) ?_
  blk_ext [at1_6]

/-- Where input window 7 of region 1 reads. -/
theorem at1_7 (t : Fin cfg1.N) : win1_7.index t = ![0, 0] :=
  (by decide +kernel : ∀ t : Fin grid1.N, win1_7.index t = ![0, 0]) t

/-- Its block at a point is the whole array. -/
theorem in1_7 (c : Dev nD) (t : Fin cfg1.N) : iblk1 V c 7 t = V c main_v37 := by
  funext y
  blk_simp [iblk1]
  refine congrArg (V c main_v37) ?_
  blk_ext [at1_7]

/-- Where input window 8 of region 1 reads. -/
theorem at1_8 (t : Fin cfg1.N) : win1_8.index t = ![0, 0] :=
  (by decide +kernel : ∀ t : Fin grid1.N, win1_8.index t = ![0, 0]) t

/-- Its block at a point is the whole array. -/
theorem in1_8 (c : Dev nD) (t : Fin cfg1.N) : iblk1 V c 8 t = V c main_v43 := by
  funext y
  blk_simp [iblk1]
  refine congrArg (V c main_v43) ?_
  blk_ext [at1_8]

/-- Where output window 9 of region 1 writes. -/
theorem at1_9 (t : Fin cfg1.N) : win1_9.index t = ![(grid1.coords t 0).val, 0] :=
  (by decide +kernel : ∀ t : Fin grid1.N, win1_9.index t = ![(grid1.coords t 0).val, 0]) t

/-- A block of the messages, edge by edge. -/
theorem edge_blk (c : Dev nD) (t : Fin cfg1.N) (y : (⟨2, ![2000, 64]⟩ : Shape).Idx) :
    out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) y
      = eK (V c main_v101) (V c main_v116) (V c main_v123) (V c main_v106) (V c main_v109) (V c main_v33) (V c main_v34) (V c main_v37) (V c main_v43) (edgeRow (grid1.coords t 0) (y 0)) (y 1) := by
  obtain ⟨n, k, rfl⟩ : ∃ n k, y = ix2 n k := ⟨_, _, eq_ix2 y⟩
  rw [out_apply]
  simp only [eK, grpK, baseK, in1_0, in1_1, in1_2, in1_3, in1_4, in1_5, in1_6, in1_7, in1_8]
  rfl

/-- The edge stage leaves every edge's message. -/
theorem edge_msg (c : Dev nD) : (dat1 V c).arrAt 9 cfg1.N = fun i : (⟨2, ![160000, 64]⟩ : Shape).Idx =>
    eK (V c main_v101) (V c main_v116) (V c main_v123) (V c main_v106) (V c main_v109) (V c main_v33) (V c main_v34) (V c main_v37) (V c main_v43) (i 0) (i 1) := by
  refine (dat1 V c).arrAt_eq_of_covers 9 _ (by decide +kernel) fun t hf y => ?_
  blk_simp
  rw [after1_9]
  refine (edge_blk V c t y).trans ?_
  refine congrArg₂ (eK (V c main_v101) (V c main_v116) (V c main_v123) (V c main_v106) (V c main_v109) (V c main_v33) (V c main_v34) (V c main_v37) (V c main_v43)) (Fin.ext ?_) (Fin.ext ?_)
  · blk_simp [at1_9, edgeRow]
  · blk_simp [at1_9, edgeRow]

end Cert.Proof.Ker

end
-- ==== Proof.KValue.lean ====
/- What each stage of the kernel reads and leaves, from the arguments. -/
module

public import proofs.«01_k».proof.Proof.KHost0
public import proofs.«01_k».proof.Proof.KHost1
public import proofs.«01_k».proof.Proof.KNode
public import proofs.«01_k».proof.Proof.KEdge

@[expose] public section

set_option maxRecDepth 16384

noncomputable section

namespace Cert.Proof.Ker

open Cert.KernelIdeal Cert.KernelIdeal.Gen Idealize.ShloMosaic Idealize.ShloMosaic.TcCoe
open Cert.Proof

/-- Arrays of one or two axes are equal where all their elements are. -/
theorem ext1 {α : Type} {a : ℕ} (f g : At1 a → α) (h : ∀ n, f (ix1 n) = g (ix1 n)) : f = g :=
  funext fun i => by rw [eq_ix1 i]; exact h _
@[inherit_doc ext1] theorem ext2 {α : Type} {a b : ℕ} (f g : At2 a b → α) (h : ∀ n k, f (ix2 n k) = g (ix2 n k)) : f = g :=
  funext fun i => by rw [eq_ix2 i]; exact h _ _

variable (m : (ℓ : Loc nD τ sig) → Buf (Elt Ideal) ℓ) (ρ : Dev nD → PrngReg) (c : Dev nD)

/-! ## Before the node stage -/

/-- What the first stretch leaves and the next two do not write. -/
theorem W3_of_1 (r : Ref sig .tc) (h2 : r ∉ hostOps0_1_W) (h3 : r ∉ hostOps0_2_W) :
    W3 m ρ c (Proc.devRef .tc r) = W1 m ρ c (Proc.devRef .tc r) :=
  (W3_of m ρ c r h3).trans (W2_of m ρ c r h2)

/-- The positions. -/
theorem pos3 : W3 m ρ c (Proc.devRef .tc main_v0) = posArr (m ((c.tc : Thread nD τ).loc main_arg2)) := by
  refine ext2 (a := 10000) (b := 3) _ _ fun n k => ?_
  exact (congrFun (W3_of_1 m ρ c main_v0 (by decide) (by decide)) _).trans (pos_apply (W0 m ρ c) n k)

/-- The sources of the edges. -/
theorem src3 : W3 m ρ c (Proc.devRef .tc main_v3) = wordArr (m ((c.tc : Thread nD τ).loc main_arg1)) 0 := by
  refine ext1 (a := 160000) _ _ fun e => ?_
  exact (congrFun (W3_of_1 m ρ c main_v3 (by decide) (by decide)) _).trans (src_apply (W0 m ρ c) e)

/-- The targets of the edges. -/
theorem dst3 : W3 m ρ c (Proc.devRef .tc main_v5) = wordArr (m ((c.tc : Thread nD τ).loc main_arg1)) 1 := by
  refine ext1 (a := 160000) _ _ fun e => ?_
  exact (congrFun (W3_of_1 m ρ c main_v5 (by decide) (by decide)) _).trans (dst_apply (W0 m ρ c) e)

/-- The cosines of the phase shifts. -/
theorem cos3 : W3 m ρ c (Proc.devRef .tc main_v33) = cosArr (m ((c.tc : Thread nD τ).loc main_arg6)) := by
  refine ext2 (a := 16) (b := 256) _ _ fun n k => ?_
  exact (congrFun (W3_of_1 m ρ c main_v33 (by decide) (by decide)) _).trans (cos_apply (W0 m ρ c) n k)

/-- The sines of the phase shifts. -/
theorem sin3 : W3 m ρ c (Proc.devRef .tc main_v34) = sinArr (m ((c.tc : Thread nD τ).loc main_arg6)) := by
  refine ext2 (a := 16) (b := 256) _ _ fun n k => ?_
  exact (congrFun (W3_of_1 m ρ c main_v34 (by decide) (by decide)) _).trans (sin_apply (W0 m ρ c) n k)

/-- The second layer at a loop. -/
theorem self3 (n k : Fin 64) : W3 m ρ c (Proc.devRef .tc main_v32) (ix2 n k : S64x64.Idx) = selfK (m ((c.tc : Thread nD τ).loc main_arg6)) (m ((c.tc : Thread nD τ).loc main_arg7)) (m ((c.tc : Thread nD τ).loc main_arg8)) (m ((c.tc : Thread nD τ).loc main_arg9)) n k :=
  (congrFun (W3_of_1 m ρ c main_v32 (by decide) (by decide)) _).trans (self_apply (W0 m ρ c) n k)

/-- The scaled weights of the second layer along a diagonal. -/
theorem diag3 : W3 m ρ c (Proc.devRef .tc main_v37) = diagArr (m ((c.tc : Thread nD τ).loc main_arg8)) := by
  refine ext2 (a := 256) (b := 256) _ _ fun n k => ?_
  refine (congrFun (W3_of m ρ c main_v37 (by decide)) _).trans ((diag_apply (W1 m ρ c) n k).trans ?_)
  exact congrArg (fun q : EReal => if n.val / 64 = k.val / 64 then q else 0) (w1_apply (W0 m ρ c) (col64 n) (col64 k))

/-- The scaled bias of the second layer, four times. -/
theorem bias3 : W3 m ρ c (Proc.devRef .tc main_v43) = bias1Arr (m ((c.tc : Thread nD τ).loc main_arg9)) := by
  refine ext2 (a := 1) (b := 256) _ _ fun n k => ?_
  rw [Subsingleton.elim n 0]
  exact (bias1_apply (W2 m ρ c) k).trans (congrArg (fun q : Arr1 64 => c01 * q (ix1 (col64 k))) (W2_args m ρ c main_arg9 (by decide)))

/-- The first decoder's bias. -/
theorem biasDec3 : W3 m ρ c (Proc.devRef .tc main_v44) = rowArr (m ((c.tc : Thread nD τ).loc main_arg5)) := by
  refine ext2 (a := 1) (b := 64) _ _ fun n k => ?_
  rw [Subsingleton.elim n 0]
  exact (biasDec_apply (W2 m ρ c) k).trans (congrArg (fun q : Arr1 64 => q (ix1 k)) (W2_args m ρ c main_arg5 (by decide)))

/-- The last layer's weights of the decoded features. -/
theorem w2x3 : W3 m ρ c (Proc.devRef .tc main_v46) = w2xArr (m ((c.tc : Thread nD τ).loc main_arg10)) := by
  refine ext2 (a := 64) (b := 64) _ _ fun n k => ?_
  exact (w2x_apply (W2 m ρ c) n k).trans (congrArg (fun q : Arr2 64 67 => q (ix2 k (n.castAdd 3))) (W2_args m ρ c main_arg10 (by decide)))

/-- The last layer's weights of the position. -/
theorem w2p3 : W3 m ρ c (Proc.devRef .tc main_v48) = w2pArr (m ((c.tc : Thread nD τ).loc main_arg10)) := by
  refine ext2 (a := 3) (b := 64) _ _ fun n k => ?_
  exact (w2p_apply (W2 m ρ c) n k).trans (congrArg (fun q : Arr2 64 67 => q (ix2 k (n.natAdd 64))) (W2_args m ρ c main_arg10 (by decide)))

/-- The last layer's bias of the decoded features. -/
theorem b2x3 : W3 m ρ c (Proc.devRef .tc main_v50) = b2xArr (m ((c.tc : Thread nD τ).loc main_arg11)) := by
  refine ext2 (a := 64) (b := 1) _ _ fun n k => ?_
  rw [Subsingleton.elim k 0]
  exact (b2x_apply (W2 m ρ c) n).trans (congrArg (fun q : Arr1 67 => q (ix1 (n.castAdd 3))) (W2_args m ρ c main_arg11 (by decide)))

/-- The last layer's bias of the position. -/
theorem b2p3 : W3 m ρ c (Proc.devRef .tc main_v52) = b2pArr (m ((c.tc : Thread nD τ).loc main_arg11)) := by
  refine ext2 (a := 3) (b := 1) _ _ fun n k => ?_
  rw [Subsingleton.elim k 0]
  exact (b2p_apply (W2 m ρ c) n).trans (congrArg (fun q : Arr1 67 => q (ix1 (n.natAdd 64))) (W2_args m ρ c main_arg11 (by decide)))

/-! ## Between the node stage and the edge stage -/

/-- The node stage leaves the nodes' rows against the last layer's weights. -/
theorem z4 : W4 m ρ c (Proc.devRef .tc main_v53_0) = zArr (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg10)) := by
  refine (W4_arr m ρ c 8).trans ((node_z (V3 m ρ) c).trans ?_)
  rw [show V3 m ρ c main_v0 = _ from pos3 m ρ c, show V3 m ρ c main_v44 = _ from biasDec3 m ρ c,
    show V3 m ρ c main_v46 = _ from w2x3 m ρ c, show V3 m ρ c main_v48 = _ from w2p3 m ρ c,
    show V3 m ρ c main_arg0 = _ from W3_args m ρ c main_arg0 (by decide), show V3 m ρ c main_arg4 = _ from W3_args m ρ c main_arg4 (by decide)]
  rfl

/-- It leaves the nodes' rows against the last layer's biases. -/
theorem s4 : W4 m ρ c (Proc.devRef .tc main_v53_1) = sArr (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg11)) := by
  refine (W4_arr m ρ c 9).trans ((node_s (V3 m ρ) c).trans ?_)
  rw [show V3 m ρ c main_v0 = _ from pos3 m ρ c, show V3 m ρ c main_v44 = _ from biasDec3 m ρ c,
    show V3 m ρ c main_v50 = _ from b2x3 m ρ c, show V3 m ρ c main_v52 = _ from b2p3 m ρ c,
    show V3 m ρ c main_arg0 = _ from W3_args m ρ c main_arg0 (by decide), show V3 m ρ c main_arg4 = _ from W3_args m ρ c main_arg4 (by decide)]
  rfl

/-- What the stretches that form the features write. -/
abbrev midW : Fin 17 → List (Ref sig .tc) := ![hostOps1_1_W, hostOps1_2_W, hostOps1_3_W, hostOps1_4_W, hostOps1_5_W, hostOps1_6_W, hostOps1_7_W, hostOps1_8_W, hostOps1_9_W, hostOps1_10_W, hostOps1_11_W, hostOps1_12_W, hostOps1_13_W, hostOps1_14_W, hostOps1_15_W, hostOps1_16_W, hostOps1_17_W]

/-- A buffer that none of these stretches writes. -/
theorem W22_of_5 (r : Ref sig .tc) (h : ∀ k, r ∉ midW k) : W22 m ρ c (Proc.devRef .tc r) = W5 m ρ c (Proc.devRef .tc r) :=
  (W22_of m ρ c r (h 16)).trans <| (W21_of m ρ c r (h 15)).trans <| (W20_of m ρ c r (h 14)).trans <| (W19_of m ρ c r (h 13)).trans <| (W18_of m ρ c r (h 12)).trans <| (W17_of m ρ c r (h 11)).trans <| (W16_of m ρ c r (h 10)).trans <| (W15_of m ρ c r (h 9)).trans <| (W14_of m ρ c r (h 8)).trans <| (W13_of m ρ c r (h 7)).trans <| (W12_of m ρ c r (h 6)).trans <| (W11_of m ρ c r (h 5)).trans <| (W10_of m ρ c r (h 4)).trans <| (W9_of m ρ c r (h 3)).trans <| (W8_of m ρ c r (h 2)).trans <| (W7_of m ρ c r (h 1)).trans <| W6_of m ρ c r (h 0)

/-- A buffer that no stretch before the last one of these writes. -/
theorem W22_of_4 (r : Ref sig .tc) (h : ∀ k, r ∉ midW k) (h5 : r ∉ hostOps1_W) :
    W22 m ρ c (Proc.devRef .tc r) = W4 m ρ c (Proc.devRef .tc r) :=
  (W22_of_5 m ρ c r h).trans (W5_of m ρ c r h5)

/-- A buffer that no stretch between the two stages writes. -/
theorem W23_of_4 (r : Ref sig .tc) (h : ∀ k, r ∉ midW k) (h5 : r ∉ hostOps1_W) (h23 : r ∉ hostOps1_18_W) :
    W23 m ρ c (Proc.devRef .tc r) = W4 m ρ c (Proc.devRef .tc r) :=
  (W23_of m ρ c r h23).trans (W22_of_4 m ρ c r h h5)

/-- The positions, after the node stage. -/
theorem pos4 : W4 m ρ c (Proc.devRef .tc main_v0) = posArr (m ((c.tc : Thread nD τ).loc main_arg2)) := (W4_of m ρ c main_v0 (by decide)).trans (pos3 m ρ c)
/-- The sources of the edges. -/
theorem src4 : W4 m ρ c (Proc.devRef .tc main_v3) = wordArr (m ((c.tc : Thread nD τ).loc main_arg1)) 0 := (W4_of m ρ c main_v3 (by decide)).trans (src3 m ρ c)
/-- The targets of the edges. -/
theorem dst4 : W4 m ρ c (Proc.devRef .tc main_v5) = wordArr (m ((c.tc : Thread nD τ).loc main_arg1)) 1 := (W4_of m ρ c main_v5 (by decide)).trans (dst3 m ρ c)

/-- The features of the edges, before the edge stage. -/
theorem feat23 : W23 m ρ c (Proc.devRef .tc main_v101) = featArr (m ((c.tc : Thread nD τ).loc main_arg1)) (m ((c.tc : Thread nD τ).loc main_arg2)) := by
  refine ext2 (a := 160000) (b := 4) _ _ fun n k => ?_
  refine (feat_apply (W4 m ρ c) n k).trans ?_
  rw [pos4, src4, dst4]
  rfl

/-- The scaled weights of the features. -/
theorem w023 : W23 m ρ c (Proc.devRef .tc main_v106) = w0Arr (m ((c.tc : Thread nD τ).loc main_arg6)) := by
  refine ext2 (a := 4) (b := 64) _ _ fun n k => ?_
  exact (w0_apply (W22 m ρ c) n k).trans (congrArg (fun q : Arr2 4 64 => if n.val < 3 then c01 * q (ix2 n k) else 0)
    (W22_args m ρ c main_arg6 (by decide)))

/-- The scaled bias of the first layer. -/
theorem b023 : W23 m ρ c (Proc.devRef .tc main_v109) = b0Arr (m ((c.tc : Thread nD τ).loc main_arg7)) := by
  refine ext2 (a := 1) (b := 64) _ _ fun n k => ?_
  rw [Subsingleton.elim n 0]
  exact (b0_apply (W22 m ρ c) k).trans (congrArg (fun q : Arr1 64 => c01 * q (ix1 k)) (W22_args m ρ c main_arg7 (by decide)))

/-- The first node table at the sources. -/
theorem z23 : W23 m ρ c (Proc.devRef .tc main_v116) = atSrc (m ((c.tc : Thread nD τ).loc main_arg1)) (zArr (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg10))) := by
  refine ext2 (a := 160000) (b := 64) _ _ fun n k => ?_
  refine (z_apply (W22 m ρ c) n k).trans ?_
  rw [W22_of_4 m ρ c main_v53_0 (by decide) (by decide), W22_of_4 m ρ c main_v3 (by decide) (by decide), z4, src4]
  rfl

/-- The second node table at the sources. -/
theorem s23 : W23 m ρ c (Proc.devRef .tc main_v123) = atSrc (m ((c.tc : Thread nD τ).loc main_arg1)) (sArr (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg11))) := by
  refine ext2 (a := 160000) (b := 1) _ _ fun n k => ?_
  rw [Subsingleton.elim k 0]
  refine (s_apply (W22 m ρ c) n).trans ?_
  rw [W22_of_4 m ρ c main_v53_1 (by decide) (by decide), W22_of_4 m ρ c main_v3 (by decide) (by decide), s4, src4]
  rfl

/-- What the first stretches leave and nothing before the edge stage writes. -/
theorem W23_of_3 (r : Ref sig .tc) (h : ∀ k, r ∉ midW k) (h5 : r ∉ hostOps1_W) (h23 : r ∉ hostOps1_18_W)
    (h4 : ∀ w : Fin cfg0.W, Pipeline.arrRef spec0 w = r → (cfg0.win w).isOut = false) :
    W23 m ρ c (Proc.devRef .tc r) = W3 m ρ c (Proc.devRef .tc r) :=
  (W23_of_4 m ρ c r h h5 h23).trans (W4_of m ρ c r h4)

/-! ## After the edge stage -/

/-- The edge stage leaves the messages. -/
theorem msg24 : W24 m ρ c (Proc.devRef .tc main_v124) = msgArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W24_arr m ρ c 9).trans ((edge_msg (V23 m ρ) c).trans ?_)
  rw [show V23 m ρ c main_v101 = _ from feat23 m ρ c, show V23 m ρ c main_v116 = _ from z23 m ρ c,
    show V23 m ρ c main_v123 = _ from s23 m ρ c, show V23 m ρ c main_v106 = _ from w023 m ρ c,
    show V23 m ρ c main_v109 = _ from b023 m ρ c,
    show V23 m ρ c main_v33 = _ from (W23_of_3 m ρ c main_v33 (by decide) (by decide) (by decide) (by decide)).trans (cos3 m ρ c),
    show V23 m ρ c main_v34 = _ from (W23_of_3 m ρ c main_v34 (by decide) (by decide) (by decide) (by decide)).trans (sin3 m ρ c),
    show V23 m ρ c main_v37 = _ from (W23_of_3 m ρ c main_v37 (by decide) (by decide) (by decide) (by decide)).trans (diag3 m ρ c),
    show V23 m ρ c main_v43 = _ from (W23_of_3 m ρ c main_v43 (by decide) (by decide) (by decide) (by decide)).trans (bias3 m ρ c)]
  rfl

/-- What nothing between the two stages and in the edge stage writes. -/
theorem W24_of_4 (r : Ref sig .tc) (h : ∀ k, r ∉ midW k) (h5 : r ∉ hostOps1_W) (h23 : r ∉ hostOps1_18_W)
    (h24 : ∀ w : Fin cfg1.W, Pipeline.arrRef spec1 w = r → (cfg1.win w).isOut = false) :
    W24 m ρ c (Proc.devRef .tc r) = W4 m ρ c (Proc.devRef .tc r) :=
  (W24_of m ρ c r h24).trans (W23_of_4 m ρ c r h h5 h23)

/-- The messages summed at their targets, before the final stage. -/
theorem agg25 : W25 m ρ c (Proc.devRef .tc main_v127) = aggArr (m ((c.tc : Thread nD τ).loc main_arg1)) (msgArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  refine ext2 (a := 10000) (b := 64) _ _ fun n k => ?_
  refine (agg_apply (W24 m ρ c) n k).trans ?_
  rw [msg24, W24_of_4 m ρ c main_v5 (by decide) (by decide) (by decide) (by decide), dst4]
  rfl

/-- The second layer at a loop, transposed. -/
theorem self25 : W25 m ρ c (Proc.devRef .tc main_v128) = selfArr (m ((c.tc : Thread nD τ).loc main_arg6)) (m ((c.tc : Thread nD τ).loc main_arg7)) (m ((c.tc : Thread nD τ).loc main_arg8)) (m ((c.tc : Thread nD τ).loc main_arg9)) := by
  refine ext2 (a := 64) (b := 64) _ _ fun n k => ?_
  refine (selfT_apply (W24 m ρ c) n k).trans ?_
  rw [W24_of_4 m ρ c main_v32 (by decide) (by decide) (by decide) (by decide), W4_of m ρ c main_v32 (by decide)]
  exact self3 m ρ c k n

/-- The last decoder's bias. -/
theorem bias25 : W25 m ρ c (Proc.devRef .tc main_v129) = rowArr (m ((c.tc : Thread nD τ).loc main_arg14)) := by
  refine ext2 (a := 1) (b := 4) _ _ fun n k => ?_
  rw [Subsingleton.elim n 0]
  exact (biasOut_apply (W24 m ρ c) k).trans (congrArg (fun q : Arr1 4 => q (ix1 k)) (W24_args m ρ c main_arg14 (by decide)))

/-- The kernel's result at a node and an output. -/
theorem out26 (n : Fin 10000) (j : Fin 4) : W26 m ρ c (Proc.devRef .tc main_v130) (ix2 n j : S10000x4.Idx)
    = outK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) n j := by
  refine (congrFun ((W26_arr m ρ c 7).trans (final_o (V25 m ρ) c)) _).trans ?_
  rw [show V25 m ρ c main_v127 = _ from agg25 m ρ c, show V25 m ρ c main_v128 = _ from self25 m ρ c,
    show V25 m ρ c main_v129 = _ from bias25 m ρ c,
    show V25 m ρ c main_v53_0 = _ from ((W25_of m ρ c main_v53_0 (by decide)).trans
      (W24_of_4 m ρ c main_v53_0 (by decide) (by decide) (by decide) (by decide))).trans (z4 m ρ c),
    show V25 m ρ c main_v53_1 = _ from ((W25_of m ρ c main_v53_1 (by decide)).trans
      (W24_of_4 m ρ c main_v53_1 (by decide) (by decide) (by decide) (by decide))).trans (s4 m ρ c),
    show V25 m ρ c main_arg12 = _ from W25_args m ρ c main_arg12 (by decide),
    show V25 m ρ c main_arg13 = _ from W25_args m ρ c main_arg13 (by decide)]
  rfl

end Cert.Proof.Ker

end
-- ==== Proof.Reals.lean ====
/- Extended reals that are real numbers: what keeps them so, and the laws of a ring that hold of them. -/
module

public import proofs.«01_k».proof.Proof.Spec
public import Idealize.ShloMosaic.Lib.IdealHost

@[expose] public section

noncomputable section

namespace Cert.Proof

open Idealize.ShloMosaic

/-- `x` is a real number. -/
def IsReal (x : EReal) : Prop := ∃ r : ℝ, x = r

/-- A sum of reals is the sum in the reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

namespace IsReal

/-- Zero is real. -/
theorem zero : IsReal 0 := ⟨0, rfl⟩
/-- One is real. -/
theorem one : IsReal 1 := ⟨1, rfl⟩
/-- A sum of two reals is real. -/
theorem add {x y : EReal} (hx : IsReal x) (hy : IsReal y) : IsReal (x + y) := by
  obtain ⟨x, rfl⟩ := hx; obtain ⟨y, rfl⟩ := hy; exact ⟨x + y, by push_cast; rfl⟩
/-- A difference of two reals is real. -/
theorem sub {x y : EReal} (hx : IsReal x) (hy : IsReal y) : IsReal (x - y) := by
  obtain ⟨x, rfl⟩ := hx; obtain ⟨y, rfl⟩ := hy; exact ⟨x - y, by push_cast; rfl⟩
/-- A product of two reals is real. -/
theorem mul {x y : EReal} (hx : IsReal x) (hy : IsReal y) : IsReal (x * y) := by
  obtain ⟨x, rfl⟩ := hx; obtain ⟨y, rfl⟩ := hy; exact ⟨x * y, by push_cast; rfl⟩
/-- A finite sum of reals is real. -/
theorem sum {ι : Type} [Fintype ι] {f : ι → EReal} (h : ∀ i, IsReal (f i)) : IsReal (∑ i, f i) := by
  choose g hg using h
  exact ⟨∑ i, g i, by rw [coe_sum_real]; exact Finset.sum_congr rfl fun i _ => hg i⟩
/-- The sine of a real is real. -/
theorem sin {x : EReal} (hx : IsReal x) : IsReal (Ideal.sin x) := by
  obtain ⟨x, rfl⟩ := hx; exact ⟨Real.sin x, Ideal.sin_coe x⟩
/-- The cosine of a real is real. -/
theorem cos {x : EReal} (hx : IsReal x) : IsReal (Ideal.cos x) := by
  obtain ⟨x, rfl⟩ := hx; exact ⟨Real.cos x, Ideal.cos_coe x⟩
/-- The larger of two reals is real. -/
theorem max {x y : EReal} (hx : IsReal x) (hy : IsReal y) : IsReal (max x y) := by
  rcases max_choice x y with h | h <;> rw [h] <;> assumption
/-- The smaller of two reals is real. -/
theorem min {x y : EReal} (hx : IsReal x) (hy : IsReal y) : IsReal (min x y) := by
  rcases min_choice x y with h | h <;> rw [h] <;> assumption
/-- A choice is real where what it takes when chosen, and what it takes otherwise, are. -/
theorem select {b : BitVec 1} {x y : EReal} (hx : b = 1#1 → IsReal x) (hy : IsReal y) : IsReal (Scalar.select b x y) := by
  unfold Scalar.select
  split
  · exact hx (by simp_all)
  · exact hy
/-- The angle of a point with real coordinates is real. -/
theorem atan2 {x y : EReal} (hx : IsReal x) (hy : IsReal y) : IsReal (Ideal.atan2 x y) := by
  obtain ⟨x, rfl⟩ := hx; obtain ⟨y, rfl⟩ := hy; exact ⟨_, rfl⟩
/-- A quotient of reals by one other than zero is real. -/
theorem div {x y : EReal} (hx : IsReal x) (hy : IsReal y) (h : y ≠ 0) : IsReal (Ideal.div x y) := by
  obtain ⟨x, rfl⟩ := hx; obtain ⟨y, rfl⟩ := hy
  rw [Ideal.div_coe (by exact_mod_cast h)]
  exact ⟨x * (1 / y), by push_cast; rfl⟩
/-- The square root of a real that is not negative is real. -/
theorem sqrt {x : EReal} (hx : IsReal x) (h : 0 ≤ x) : IsReal (Ideal.sqrt x) := by
  obtain ⟨x, rfl⟩ := hx
  have h' : ¬ x < 0 := not_lt.mpr (by exact_mod_cast h)
  exact ⟨Real.sqrt x, by rw [Ideal.sqrt_coe, if_neg h']⟩
/-- The arcsine of a real between -1 and 1 is real. -/
theorem asin {x : EReal} (hx : IsReal x) (h1 : ((-1 : ℝ) : EReal) ≤ x) (h2 : x ≤ 1) : IsReal (Ideal.asin x) := by
  obtain ⟨x, rfl⟩ := hx
  have h1' : -1 ≤ x := EReal.coe_le_coe_iff.mp h1
  have h2' : x ≤ 1 := by exact_mod_cast h2
  exact ⟨Real.arcsin x, by rw [Ideal.asin_coe, if_pos ⟨h1', h2'⟩]⟩

end IsReal

/-- A word that is neither infinite nor junk is a real number. -/
theorem IsReal.ofBits {b : BitVec 32} (h : (b.extractLsb' 23 8).toNat ≠ 255) : IsReal (Ideal.ofBits .f32 b) := by
  have h' : ¬ (b.extractLsb' 23 8).toNat = 2 ^ 8 - 1 := h
  simp only [Ideal.ofBits, Ideal.ieee]
  rw [if_neg h']
  split <;> exact ⟨_, rfl⟩

/-- The factor 0.01, as its float, is real. -/
theorem c001_real : IsReal c001 := .ofBits (by decide)
/-- The factor 0.1, as its float, is real. -/
theorem c01_real : IsReal c01 := .ofBits (by decide)
/-- The float nearest to pi is real. -/
theorem cpi_real : IsReal cpi := .ofBits (by decide)
/-- The float of minus one is the number minus one. -/
theorem cm1_eq : cm1 = ((-1 : ℝ) : EReal) := by
  simp [cm1, Ideal.ofBits, Ideal.ieee, ← EReal.coe_mul]
  norm_num
/-- The float nearest to pi is not zero. -/
theorem cpi_ne : cpi ≠ 0 := by
  simp [cpi, Ideal.ofBits, Ideal.ieee]
/-- A channel's number is real. -/
theorem chan_real (c : Fin 64) : IsReal (chan c) := ⟨_, rfl⟩

/-- The sine of a sum. -/
theorem sin_add_real {x y : EReal} (hx : IsReal x) (hy : IsReal y) :
    Ideal.sin x * Ideal.cos y + Ideal.cos x * Ideal.sin y = Ideal.sin (x + y) := by
  obtain ⟨x, rfl⟩ := hx; obtain ⟨y, rfl⟩ := hy
  rw [← EReal.coe_add]
  simp only [Ideal.sin_coe, Ideal.cos_coe, Real.sin_add]
  push_cast
  rfl

/-- A real factor taken out of a sum of products and a bias. -/
theorem scale_dot {ι : Type} [Fintype ι] {k b : EReal} {h w : ι → EReal} (hk : IsReal k) (hb : IsReal b) (hh : ∀ i, IsReal (h i))
    (hw : ∀ i, IsReal (w i)) : ∑ i, h i * (k * w i) + k * b = k * (∑ i, h i * w i + b) := by
  obtain ⟨k, rfl⟩ := hk; obtain ⟨b, rfl⟩ := hb
  choose h' eh using hh
  choose w' ew using hw
  simp only [eh, ew, ← EReal.coe_mul, ← coe_sum_real, ← EReal.coe_add]
  refine congrArg _ ?_
  rw [mul_add, Finset.mul_sum]
  exact congrArg (· + k * b) (Finset.sum_congr rfl fun i _ => by ring)

/-- A product with a real factor distributes over a sum with a real summand, whatever the other summand is. -/
theorem add_mul_real {a x : EReal} (ha : IsReal a) (hx : IsReal x) (b : EReal) : (a + b) * x = a * x + b * x := by
  obtain ⟨a, rfl⟩ := ha; obtain ⟨x, rfl⟩ := hx
  induction b with
  | coe b => norm_cast; ring
  | top =>
    rw [EReal.coe_add_top]
    rcases lt_trichotomy x 0 with h | rfl | h
    · rw [EReal.top_mul_coe_of_neg h, ← EReal.coe_mul, EReal.add_bot]
    · simp
    · rw [EReal.top_mul_coe_of_pos h, ← EReal.coe_mul, EReal.coe_add_top]
  | bot =>
    rw [EReal.add_bot]
    rcases lt_trichotomy x 0 with h | rfl | h
    · rw [EReal.bot_mul_coe_of_neg h, ← EReal.coe_mul, EReal.coe_add_top]
    · simp
    · rw [EReal.bot_mul_coe_of_pos h, EReal.add_bot]

/-- A row against weights and biases: the weights' share and the biases' share, summed apart. -/
theorem dot_dot {ι κ : Type} [Fintype ι] [Fintype κ] {h : κ → EReal} {w : κ → ι → EReal} {x : ι → EReal} (hh : ∀ k, IsReal (h k))
    (hw : ∀ k i, IsReal (w k i)) (hx : ∀ i, IsReal (x i)) (b : ι → EReal) :
    ∑ i, (∑ k, h k * w k i + b i) * x i = ∑ k, h k * (∑ i, x i * w k i) + ∑ i, x i * b i := by
  have e : ∀ i, (∑ k, h k * w k i + b i) * x i = (∑ k, h k * w k i) * x i + x i * b i := fun i => by
    rw [add_mul_real (IsReal.sum fun k => (hh k).mul (hw k i)) (hx i), mul_comm (b i)]
  simp only [e, Finset.sum_add_distrib]
  refine congrArg (· + ∑ i, x i * b i) ?_
  choose h' eh using hh
  choose w' ew using hw
  choose x' ex using hx
  simp only [eh, ew, ex, ← EReal.coe_mul, ← coe_sum_real]
  refine congrArg _ ?_
  simp only [Finset.sum_mul, Finset.mul_sum]
  rw [Finset.sum_comm]
  exact Finset.sum_congr rfl fun k _ => Finset.sum_congr rfl fun i _ => by ring

end Cert.Proof

end
-- ==== Proof.Message.lean ====
/- An edge's message and a loop's message: what the kernel forms is what the network's definition says, where the arguments are
   real. -/
module

public import proofs.«01_k».proof.Proof.Reals
public import proofs.«01_k».proof.Proof.KArr

@[expose] public section

noncomputable section

namespace Cert.Proof

open Idealize.ShloMosaic

/-! ## The features -/

/-- The mask is on where the squared length is positive. -/
theorem maskS_eq (r : Fin 3 → EReal) : maskS r = BitVec.ofBool (decide (0 < sqS r)) := rfl

/-- Where the mask is on, the squared length is positive. -/
theorem sq_pos_of_mask {r : Fin 3 → EReal} (h : maskS r = 1#1) : 0 < sqS r := by
  rw [maskS_eq] at h
  by_contra hn
  rw [decide_eq_false hn] at h
  exact absurd h (by decide)

/-- The length of a real difference is real. -/
theorem rhoS_real {r : Fin 3 → EReal} (hr : ∀ t, IsReal (r t)) : IsReal (rhoS r) := by
  have hs : IsReal (sqS r) := .sum fun t => (hr t).mul (hr t)
  refine .select (fun hm => ?_) .zero
  refine .sqrt (.select (fun _ => hs) .one) ?_
  rw [hm]
  exact (sq_pos_of_mask hm).le

/-- The length is not zero where the mask is on. -/
theorem rhoS_ne {r : Fin 3 → EReal} (hr : ∀ t, IsReal (r t)) (hm : maskS r = 1#1) : rhoS r ≠ 0 := by
  obtain ⟨s, hs⟩ : IsReal (sqS r) := .sum fun t => (hr t).mul (hr t)
  have hp := sq_pos_of_mask hm
  have e : rhoS r = Ideal.sqrt (sqS r) := by rw [rhoS, hm]; rfl
  rw [e, hs] at *
  have hp' : 0 < s := by exact_mod_cast hp
  rw [Ideal.sqrt_coe, if_neg hp'.le.not_gt]
  exact_mod_cast (Real.sqrt_pos.mpr hp').ne'

/-- The features of a real difference are real. -/
theorem featS_real {r : Fin 3 → EReal} (hr : ∀ t, IsReal (r t)) (k : Fin 3) : IsReal (featS r k) := by
  unfold featS
  split
  · exact rhoS_real hr
  split
  · exact .div (.select (fun _ => .atan2 (.select (fun _ => hr 1) .zero) (.select (fun _ => hr 0) .one)) .zero) cpi_real cpi_ne
  · refine .div (.select (fun hm => ?_) .zero) cpi_real cpi_ne
    have hv : IsReal (Scalar.select (maskS r) (Ideal.div (r 2) (Scalar.select (maskS r) (rhoS r) 1)) 0) := by
      refine .select (fun hm => .div (hr 2) (.select (fun _ => rhoS_real hr) .one) ?_) .zero
      rw [hm]
      exact rhoS_ne hr hm
    have hc : IsReal cm1 := ⟨-1, cm1_eq⟩
    refine .asin (.min .one (.max hc hv)) (le_min ?_ (le_max_of_le_left cm1_eq.ge)) (min_le_left _ _)
    exact_mod_cast (by norm_num : (-1 : ℝ) ≤ 1)

/-- The features of a zero difference are zero. -/
theorem featS_zero (k : Fin 3) : featS (fun _ => 0) k = 0 := by
  have hs : sqS (fun _ => 0) = 0 := by simp [sqS]
  have hm : maskS (fun _ => 0) = 0#1 := by rw [maskS_eq, hs]; simp
  have hd : Ideal.div 0 cpi = 0 := by rw [Ideal.div, if_neg cpi_ne, zero_mul]
  unfold featS
  split
  · rw [rhoS, hm]; rfl
  split
  · rw [thetaS, hm]; exact hd
  · rw [phiS, hm]; exact hd

/-! ## The network's layers -/

section layers

variable {a6 : Arr2 4 64} {a7 : Arr1 64} {a8 : Arr2 64 64} {a9 : Arr1 64} {f : Fin 3 → EReal}
  (h6 : ∀ i, IsReal (a6 i)) (h7 : ∀ i, IsReal (a7 i)) (h8 : ∀ i, IsReal (a8 i)) (h9 : ∀ i, IsReal (a9 i)) (hf : ∀ t, IsReal (f t))

include h6 in
/-- A phase shift is real. -/
theorem shiftK_real (c l : Fin 64) : IsReal (shiftK a6 c l) := (c01_real.mul (chan_real c)).mul (h6 _)

include h6 h7 hf in
/-- The first layer is real. -/
theorem h0S_real (c k : Fin 64) : IsReal (h0S a6 a7 f c k) := by
  refine .sin (c01_real.mul (.add (.sum fun t => .mul ?_ (h6 _)) (h7 _)))
  split
  · exact hf _
  · exact chan_real c

include h6 h7 h8 h9 hf in
/-- The second layer is real. -/
theorem h1S_real (c k : Fin 64) : IsReal (h1S a6 a7 a8 a9 f c k) :=
  .sin (c01_real.mul (.add (.sum fun l => (h0S_real h6 h7 hf c l).mul (h8 _)) (h9 _)))

include h6 h7 hf in
/-- The first layer's argument, the channel's share apart. -/
theorem arg0_eq (c l : Fin 64) :
    (f 0 * (c01 * a6 (ix2 0 l)) + f 1 * (c01 * a6 (ix2 1 l)) + f 2 * (c01 * a6 (ix2 2 l)) + c01 * a7 (ix1 l)) + shiftK a6 c l
      = c01 * (∑ t : Fin 4, (if h : t.val < 3 then f ⟨t.val, h⟩ else chan c) * a6 (ix2 t l) + a7 (ix1 l)) := by
  have e : ∑ t : Fin 4, (if h : t.val < 3 then f ⟨t.val, h⟩ else chan c) * a6 (ix2 t l)
      = f 0 * a6 (ix2 0 l) + f 1 * a6 (ix2 1 l) + f 2 * a6 (ix2 2 l) + chan c * a6 (ix2 3 l) := Fin.sum_univ_four _
  rw [e, shiftK]
  obtain ⟨f0, e0⟩ := hf 0; obtain ⟨f1, e1⟩ := hf 1; obtain ⟨f2, e2⟩ := hf 2
  obtain ⟨w0, g0⟩ := h6 (ix2 0 l); obtain ⟨w1, g1⟩ := h6 (ix2 1 l); obtain ⟨w2, g2⟩ := h6 (ix2 2 l); obtain ⟨w3, g3⟩ := h6 (ix2 3 l)
  obtain ⟨b, eb⟩ := h7 (ix1 l); obtain ⟨k, ek⟩ := c01_real; obtain ⟨q, eq⟩ := chan_real c
  rw [e0, e1, e2, g0, g1, g2, g3, eb, ek, eq]
  norm_cast
  ring

include h6 h7 h8 h9 in
/-- The second layer at a loop is the one at features zero. -/
theorem selfK_eq (c k : Fin 64) : selfK a6 a7 a8 a9 c k = h1S a6 a7 a8 a9 (fun _ => 0) c k := by
  have e : ∀ l, Ideal.sin (c01 * a7 (ix1 l) + shiftK a6 c l) = h0S a6 a7 (fun _ => 0) c l := fun l => by
    rw [h0S, ← arg0_eq h6 h7 (fun _ => .zero) c l]
    simp only [zero_mul, zero_add]
  unfold selfK h1S
  simp only [e]
  exact congrArg Ideal.sin (scale_dot c01_real (h9 _) (fun l => h0S_real h6 h7 (fun _ => .zero) c l) fun l => h8 _)

end layers

/-- A sum over the four blocks of 64 in which only one block counts. -/
theorem sum_block (x : Fin 256 → EReal) (w : Fin 64 → EReal) (q : Fin 4) :
    ∑ p : Fin 256, x p * (if p.val / 64 = q.val then w (col64 p) else 0) = ∑ l : Fin 64, x ⟨64 * q.val + l.val, by omega⟩ * w l := by
  symm
  refine Finset.sum_of_injOn (fun l : Fin 64 => (⟨64 * q.val + l.val, by omega⟩ : Fin 256)) ?_ ?_ ?_ ?_
  · intro a _ b _ h
    have := congrArg Fin.val h
    exact Fin.ext (by simpa using this)
  · intro a _
    simp
  · intro p _ hp
    rw [if_neg, mul_zero]
    intro h
    refine hp ⟨⟨p.val % 64, Nat.mod_lt _ (by decide)⟩, by simp, Fin.ext ?_⟩
    show 64 * q.val + p.val % 64 = p.val
    omega
  · intro l _
    have h : (64 * q.val + l.val) / 64 = q.val := by omega
    have h' : col64 ⟨64 * q.val + l.val, by omega⟩ = l := Fin.ext (by show (64 * q.val + l.val) % 64 = l.val; omega)
    show _ = _ * (if (64 * q.val + l.val) / 64 = q.val then _ else _)
    rw [if_pos h, h']

/-! ## The messages -/

section messages

variable {a6 : Arr2 4 64} {a7 : Arr1 64} {a8 : Arr2 64 64} {a9 : Arr1 64} {f : Fin 3 → EReal}
  (h6 : ∀ i, IsReal (a6 i)) (h7 : ∀ i, IsReal (a7 i)) (h8 : ∀ i, IsReal (a8 i)) (h9 : ∀ i, IsReal (a9 i)) (hf : ∀ t, IsReal (f t))
  {N : ℕ} (x0 : Arr2 N 4) (x1 : Arr2 N 64) (x2 : Arr2 N 1) (e : Fin N)
  (hx : ∀ t : Fin 4, x0 (ix2 e t) = if h : t.val < 3 then f ⟨t.val, h⟩ else 0)

include hx in
/-- An edge's features against the scaled weights. -/
theorem baseK_eq (l : Fin 64) : baseK x0 (w0Arr a6) (b0Arr a7) e l
    = f 0 * (c01 * a6 (ix2 0 l)) + f 1 * (c01 * a6 (ix2 1 l)) + f 2 * (c01 * a6 (ix2 2 l)) + c01 * a7 (ix1 l) := by
  unfold baseK
  rw [Fin.sum_univ_four, hx, hx, hx, hx]
  show f 0 * (c01 * a6 (ix2 0 l)) + f 1 * (c01 * a6 (ix2 1 l)) + f 2 * (c01 * a6 (ix2 2 l)) + 0 * 0 + c01 * a7 (ix1 l) = _
  rw [mul_zero, add_zero]

include h6 h7 hf hx in
/-- The first layer from the phase shifts' sines and cosines. -/
theorem phase_eq (c l : Fin 64) :
    Ideal.sin (baseK x0 (w0Arr a6) (b0Arr a7) e l) * Ideal.cos (shiftK a6 c l)
      + Ideal.cos (baseK x0 (w0Arr a6) (b0Arr a7) e l) * Ideal.sin (shiftK a6 c l) = h0S a6 a7 f c l := by
  have hb : IsReal (baseK x0 (w0Arr a6) (b0Arr a7) e l) := by
    rw [baseK_eq x0 e hx]
    have := fun t : Fin 4 => c01_real.mul (h6 (ix2 t l))
    exact ((((hf 0).mul (this 0)).add ((hf 1).mul (this 1))).add ((hf 2).mul (this 2))).add (c01_real.mul (h7 _))
  rw [sin_add_real hb (shiftK_real h6 c l), baseK_eq x0 e hx, arg0_eq h6 h7 hf]
  rfl

include h6 h7 h8 h9 hf hx in
/-- One term of an edge's message: the second layer against the source's row. -/
theorem grpK_eq (c k : Fin 64) :
    grpK x0 x1 (w0Arr a6) (b0Arr a7) (cosArr a6) (sinArr a6) (diagArr a8) (bias1Arr a9) e (grpOf c) (colOf c k)
      = h1S a6 a7 a8 a9 f c k * x1 (ix2 e k) := by
  have hk : col64 (colOf c k) = k := Fin.ext (by show (64 * (c.val % 4) + k.val) % 64 = k.val; omega)
  have hq : (colOf c k).val / 64 = c.val % 4 := by show (64 * (c.val % 4) + k.val) / 64 = c.val % 4; omega
  have hd : ∀ p : Fin 256, diagArr a8 (ix2 p (colOf c k))
      = if p.val / 64 = (⟨c.val % 4, by omega⟩ : Fin 4).val then (fun l => c01 * a8 (ix2 l k)) (col64 p) else 0 := fun p => by
    show (if p.val / 64 = (colOf c k).val / 64 then c01 * a8 (ix2 (col64 p) (col64 (colOf c k))) else 0) = _
    rw [hk, hq]
  have hb : bias1Arr a9 (ix2 0 (colOf c k)) = c01 * a9 (ix1 k) := by
    show c01 * a9 (ix1 (col64 (colOf c k))) = _
    rw [hk]
  unfold grpK h1S
  simp only [hd, hb, hk]
  refine (congrArg (fun S => Ideal.sin (S + c01 * a9 (ix1 k)) * x1 (ix2 e k))
    (sum_block _ (fun l => c01 * a8 (ix2 l k)) ⟨c.val % 4, by omega⟩)).trans ?_
  refine congrArg (fun y => Ideal.sin y * x1 (ix2 e k)) ?_
  rw [← scale_dot c01_real (h9 _) (fun l => h0S_real h6 h7 hf c l) fun l => h8 _]
  refine congrArg (· + c01 * a9 (ix1 k)) (Finset.sum_congr rfl fun l _ => congrArg (· * (c01 * a8 (ix2 l k))) ?_)
  have hl : col64 ⟨64 * (c.val % 4) + l.val, by omega⟩ = l := Fin.ext (by show (64 * (c.val % 4) + l.val) % 64 = l.val; omega)
  have hc : chanOf (grpOf c) ⟨64 * (c.val % 4) + l.val, by omega⟩ = c :=
    Fin.ext (by show c.val / 4 * 4 + (64 * (c.val % 4) + l.val) / 64 = c.val; omega)
  have key : ∀ (p : Fin 256) (c' l' : Fin 64), chanOf (grpOf c) p = c' → col64 p = l' →
      Ideal.sin (baseK x0 (w0Arr a6) (b0Arr a7) e (col64 p)) * cosArr a6 (ix2 (grpOf c) p)
        + Ideal.cos (baseK x0 (w0Arr a6) (b0Arr a7) e (col64 p)) * sinArr a6 (ix2 (grpOf c) p) = h0S a6 a7 f c' l' := by
    rintro p _ _ rfl rfl
    exact phase_eq h6 h7 hf x0 e hx _ _
  exact key _ _ _ hc hl

include h6 h7 h8 h9 hf hx in
/-- An edge's message: the second layer against the source's row, and the source's bias term. -/
theorem eK_eq (c : Fin 64) :
    eK x0 x1 x2 (w0Arr a6) (b0Arr a7) (cosArr a6) (sinArr a6) (diagArr a8) (bias1Arr a9) e c
      = ∑ k, h1S a6 a7 a8 a9 f c k * x1 (ix2 e k) + x2 (ix2 e 0) := by
  unfold eK
  simp only [grpK_eq h6 h7 h8 h9 hf x0 x1 e hx]

variable {a0 : Arr2 10000 32} {a2 : Arr3 1 10000 3} {a4 : Arr2 32 64} {a5 : Arr1 64} {a10 : Arr2 64 67} (a11 : Arr1 67)
  (g0 : ∀ i, IsReal (a0 i)) (g2 : ∀ i, IsReal (a2 i)) (g4 : ∀ i, IsReal (a4 i)) (g5 : ∀ i, IsReal (a5 i)) (g10 : ∀ i, IsReal (a10 i))

include g0 g2 g4 g5 in
/-- A node's row is real. -/
theorem xcatS_real (n : Fin 10000) (k : Fin 67) : IsReal (xcatS a0 a4 a5 a2 n k) := by
  unfold xcatS
  split
  · exact .sin (c001_real.mul (.add (.sum fun t => (g0 _).mul (g4 _)) (g5 _)))
  · exact g2 _

/-- A node's row against a column of 67, in two parts. -/
theorem row_split (n : Fin 10000) (y : Fin 67 → EReal) :
    ∑ l : Fin 64, xK a0 a4 (rowArr a5) n l * y (l.castAdd 3) + ∑ t : Fin 3, posArr a2 (ix2 n t) * y (t.natAdd 64)
      = ∑ i : Fin 67, xcatS a0 a4 a5 a2 n i * y i := by
  rw [Fin.sum_univ_add (fun i : Fin (64 + 3) => xcatS a0 a4 a5 a2 n i * y i)]
  refine congrArg₂ (· + ·) (Finset.sum_congr rfl fun l _ => congrArg (· * _) ?_) (Finset.sum_congr rfl fun t _ => congrArg (· * _) ?_)
  · show xS a0 a4 a5 n l = _
    rw [xcatS, dif_pos (show (l.castAdd 3).val < 64 from l.isLt)]
    rfl
  · rw [xcatS, dif_neg (show ¬ (t.natAdd 64).val < 64 by simp)]
    exact congrArg (fun q => a2 (ix3 0 n q)) (Fin.ext (by simp))

/-- The first node table is the nodes' rows against the last layer's weights. -/
theorem zArr_eq (n : Fin 10000) (k : Fin 64) :
    zArr a0 a2 a4 a5 a10 (ix2 n k) = ∑ i : Fin 67, xcatS a0 a4 a5 a2 n i * a10 (ix2 k i) :=
  row_split n fun i => a10 (ix2 k i)

/-- The second node table is the nodes' rows against the last layer's biases. -/
theorem sArr_eq (n : Fin 10000) : sArr a0 a2 a4 a5 a11 (ix2 n 0) = ∑ i : Fin 67, xcatS a0 a4 a5 a2 n i * a11 (ix1 i) :=
  row_split n fun i => a11 (ix1 i)

include h6 h7 h8 h9 hf g0 g2 g4 g5 g10 in
/-- A message from the node tables: the second layer against the source's row in the first, and its entry in the second. -/
theorem msgS_eq (n : Fin 10000) (c : Fin 64) :
    msgS a6 a7 a8 a9 a10 a11 f (fun t => xcatS a0 a4 a5 a2 n t) c
      = ∑ k, h1S a6 a7 a8 a9 f c k * zArr a0 a2 a4 a5 a10 (ix2 n k) + sArr a0 a2 a4 a5 a11 (ix2 n 0) := by
  simp only [zArr_eq, sArr_eq]
  exact dot_dot (w := fun k i => a10 (ix2 k i)) (fun k => h1S_real h6 h7 h8 h9 hf c k) (fun k i => g10 _)
    (fun i => xcatS_real g0 g2 g4 g5 n i) fun i => a11 (ix1 i)

end messages

end Cert.Proof

end
-- ==== Proof.RefStages.lean ====
/- The reference's operations grouped into stages, each a function of the arrays that it reads; the reference's result is
   their composition. -/
module

public import proofs.«01_k».proof.Proof.Gen.ReferenceIdeal.Run
public import Idealize.ShloMosaic.Lib.Pointwise

@[expose] public section

noncomputable section

namespace Cert.Proof.Ref

open Cert.ReferenceIdeal Cert.ReferenceIdeal.Gen Idealize.ShloMosaic Idealize.ShloMosaic.TcCoe

/-- The decoded node features, `sin (0.01 · (latent · W + b))`. -/
def xA (a0 : FVec Ideal S10000x32 .f32) (a4 : FVec Ideal S32x64 .f32) (a5 : FVec Ideal S64 .f32) : FVec Ideal S10000x64 .f32 :=
  Host.sin (mulf (broadcastInDim S10000x64 ![] bcast_S_S10000x64 (constant (F := Ideal) S_ .f32 0x3C23D70A#32))
    (addf (Host.dotGeneral dot_S10000x32_S32x64_S10000x64_1_0_0_1_n_n none a0 a4)
      (broadcastInDim S10000x64 ![0, 1] bcast_S1x64_S10000x64_0_1 (broadcastInDim S1x64 ![1] bcast_S64_S1x64_1 a5))))

/-- The positions as a matrix. -/
def posA (a2 : FVec Ideal S1x10000x3 .f32) : FVec Ideal S10000x3 .f32 := shapeCast S10000x3 a2 shapeCasts_S1x10000x3_S10000x3

/-- The nodes' features beside their positions. -/
def xcatA (x : FVec Ideal S10000x64 .f32) (pos : FVec Ideal S10000x3 .f32) : FVec Ideal S10000x67 .f32 :=
  concatenate S10000x67 1 [⟨S10000x64, x⟩, ⟨S10000x3, pos⟩] concatenates_S10000x64_S10000x3_S10000x67_d1

/-- The source words: the edges', then one loop per node. -/
def srcA (a1 : IVec S1x2x160000 32) : IVec S170000 32 :=
  concatenate S170000 0 [⟨S160000, shapeCast S160000 (extractStridedSlice S1x160000 ![0, 0]
    (shapeCast S2x160000 a1 shapeCasts_S1x2x160000_S2x160000) slices_S2x160000_S1x160000_0_0) shapeCasts_S1x160000_S160000⟩,
    ⟨S10000, iotaInDim S10000 32 0⟩] concatenates_S160000_S10000_S170000_d0

/-- The target words: the edges', then one loop per node. -/
def dstA (a1 : IVec S1x2x160000 32) : IVec S170000 32 :=
  concatenate S170000 0 [⟨S160000, shapeCast S160000 (extractStridedSlice S1x160000 ![1, 0]
    (shapeCast S2x160000 a1 shapeCasts_S1x2x160000_S2x160000) slices_S2x160000_S1x160000_1_0) shapeCasts_S1x160000_S160000⟩,
    ⟨S10000, iotaInDim S10000 32 0⟩] concatenates_S160000_S10000_S170000_d0

/-- The words with a negative one counted from the end, as a column. -/
def wrapA (v : IVec S170000 32) : IVec S170000x1 32 :=
  broadcastInDim S170000x1 ![0] bcast_S170000_S170000x1_0
    (select (cmpi .slt v (broadcastInDim S170000 ![] bcast_S_S170000 (constantI S_ 32 0#32)))
      (addi v (broadcastInDim S170000 ![] bcast_S_S170000 (constantI S_ 32 10000#32))) v)

/-- The rows of the node table that the words name. -/
def xjA (xc : FVec Ideal S10000x67 .f32) (i : IVec S170000x1 32) : FVec Ideal S170000x67 .f32 :=
  Host.gather gather_S10000x67_S170000x1_S170000x67_1_0_n_n_0_1_167 xc i

/-- The positions that the words name. -/
def pjA (pos : FVec Ideal S10000x3 .f32) (i : IVec S170000x1 32) : FVec Ideal S170000x3 .f32 :=
  Host.gather gather_S10000x3_S170000x1_S170000x3_1_0_n_n_0_1_13 pos i

/-- A constant over the pairs. -/
def kA (w : BitVec 32) : FVec Ideal S170000 .f32 :=
  broadcastInDim S170000 ![] bcast_S_S170000 (constant (F := Ideal) S_ .f32 w)

/-- The squared distance. -/
def sqA (rel : FVec Ideal S170000x3 .f32) : FVec Ideal S170000 .f32 :=
  Host.reduceAdd (mulf rel rel) (constant (F := Ideal) S_ .f32 0x00000000#32) reducesTo_S170000x3_S170000_d1 h_S_

/-- Whether the pair is apart. -/
def maskA (rel : FVec Ideal S170000x3 .f32) : IVec S170000 1 := cmpf .ogt (sqA rel) (kA 0x00000000#32)

/-- The distance, zero where the pair is together. -/
def rhoA (rel : FVec Ideal S170000x3 .f32) : FVec Ideal S170000 .f32 :=
  select (maskA rel) (Host.sqrt (select (maskA rel) (sqA rel) (kA 0x3F800000#32))) (kA 0x00000000#32)

/-- The angle in the plane over π. -/
def thetaA (rel : FVec Ideal S170000x3 .f32) : FVec Ideal S170000 .f32 :=
  Host.divf (select (maskA rel) (Host.atan2
    (select (maskA rel) (shapeCast S170000 (extractStridedSlice S170000x1 ![0, 1] rel slices_S170000x3_S170000x1_0_1) shapeCasts_S170000x1_S170000) (kA 0x00000000#32))
    (select (maskA rel) (shapeCast S170000 (extractStridedSlice S170000x1 ![0, 0] rel slices_S170000x3_S170000x1_0_0) shapeCasts_S170000x1_S170000) (kA 0x3F800000#32)))
    (kA 0x00000000#32)) (kA 0x40490FDB#32)

/-- The elevation over π. -/
def phiA (rel : FVec Ideal S170000x3 .f32) : FVec Ideal S170000 .f32 :=
  Host.divf (select (maskA rel) (Host.asin (minimumf (kA 0x3F800000#32) (maximumf (kA 0xBF800000#32)
    (select (maskA rel) (Host.divf
      (shapeCast S170000 (extractStridedSlice S170000x1 ![0, 2] rel slices_S170000x3_S170000x1_0_2) shapeCasts_S170000x1_S170000)
      (select (maskA rel) (rhoA rel) (kA 0x3F800000#32))) (kA 0x00000000#32)))))
    (kA 0x00000000#32)) (kA 0x40490FDB#32)

/-- The three spherical features of each pair. -/
def featsA (pd ps : FVec Ideal S170000x3 .f32) : FVec Ideal S170000x3 .f32 :=
  concatenate S170000x3 1 [⟨S170000x1, broadcastInDim S170000x1 ![0] bcast_S170000_S170000x1_0 (rhoA (subf pd ps))⟩,
    ⟨S170000x1, broadcastInDim S170000x1 ![0] bcast_S170000_S170000x1_0 (thetaA (subf pd ps))⟩,
    ⟨S170000x1, broadcastInDim S170000x1 ![0] bcast_S170000_S170000x1_0 (phiA (subf pd ps))⟩]
    concatenates_S170000x1_S170000x1_S170000x1_S170000x3_d1

/-- The kernel network's input: the features and the channel number. -/
def inA (f : FVec Ideal S170000x3 .f32) : FVec Ideal S64x170000x4 .f32 :=
  concatenate S64x170000x4 2 [⟨S64x170000x3, broadcastInDim S64x170000x3 ![1, 2] bcast_S170000x3_S64x170000x3_1_2 f⟩,
    ⟨S64x170000x1, broadcastInDim S64x170000x1 ![0] bcast_S64_S64x170000x1_0 (sitofp (F := Ideal) .f32 (iotaInDim S64 32 0))⟩]
    concatenates_S64x170000x3_S64x170000x1_S64x170000x4_d2

/-- A bias over the channels and the pairs. -/
def biasA (b : FVec Ideal S64 .f32) : FVec Ideal S64x170000x64 .f32 :=
  broadcastInDim S64x170000x64 ![0, 1, 2] bcast_S1x1x64_S64x170000x64_0_1_2
    (broadcastInDim S1x1x64 ![1, 2] bcast_S1x64_S1x1x64_1_2 (broadcastInDim S1x64 ![1] bcast_S64_S1x64_1 b))

/-- The kernel network's first layer. -/
def h0A (i : FVec Ideal S64x170000x4 .f32) (a6 : FVec Ideal S4x64 .f32) (a7 : FVec Ideal S64 .f32) : FVec Ideal S64x170000x64 .f32 :=
  Host.sin (mulf (broadcastInDim S64x170000x64 ![] bcast_S_S64x170000x64 (constant (F := Ideal) S_ .f32 0x3DCCCCCD#32))
    (addf (Host.dotGeneral dot_S64x170000x4_S4x64_S64x170000x64_2_0_01_1_n_n none i a6) (biasA a7)))

/-- The kernel network's second layer. -/
def h1A (h : FVec Ideal S64x170000x64 .f32) (a8 : FVec Ideal S64x64 .f32) (a9 : FVec Ideal S64 .f32) : FVec Ideal S64x170000x64 .f32 :=
  Host.sin (mulf (broadcastInDim S64x170000x64 ![] bcast_S_S64x170000x64 (constant (F := Ideal) S_ .f32 0x3DCCCCCD#32))
    (addf (Host.dotGeneral dot_S64x170000x64_S64x64_S64x170000x64_2_0_01_1_n_n none h a8) (biasA a9)))

/-- The messages, one per pair and channel. -/
def msgA (h : FVec Ideal S64x170000x64 .f32) (a10 : FVec Ideal S64x67 .f32) (a11 : FVec Ideal S67 .f32)
    (xj : FVec Ideal S170000x67 .f32) : FVec Ideal S170000x64 .f32 :=
  transpose S170000x64 [1, 0] (Host.reduceAdd (mulf
      (addf (Host.dotGeneral dot_S64x170000x64_S64x67_S64x170000x67_2_0_01_1_n_n none h a10)
        (broadcastInDim S64x170000x67 ![0, 1, 2] bcast_S1x1x67_S64x170000x67_0_1_2
          (broadcastInDim S1x1x67 ![1, 2] bcast_S1x67_S1x1x67_1_2 (broadcastInDim S1x67 ![1] bcast_S67_S1x67_1 a11))))
      (broadcastInDim S64x170000x67 ![0, 1, 2] bcast_S1x170000x67_S64x170000x67_0_1_2
        (broadcastInDim S1x170000x67 ![1, 2] bcast_S170000x67_S1x170000x67_1_2 xj)))
    (constant (F := Ideal) S_ .f32 0x00000000#32) reducesTo_S64x170000x67_S64x170000_d2 h_S_) transposes_S64x170000_S170000x64_1_0

/-- The messages summed at their targets. -/
def aggA (d : IVec S170000 32) (msg : FVec Ideal S170000x64 .f32) : FVec Ideal S10000x64 .f32 :=
  Host.scatterAdd scatter_S10000x64_S170000x1_S170000x64_1_0_0_1
    (broadcastInDim S10000x64 ![] bcast_S_S10000x64 (constant (F := Ideal) S_ .f32 0x00000000#32))
    (broadcastInDim S170000x1 ![0] bcast_S170000_S170000x1_0 d) msg

/-- The final decoder. -/
def outA (agg : FVec Ideal S10000x64 .f32) (a12 : FVec Ideal S1x64 .f32) (a13 : FVec Ideal S64x4 .f32) (a14 : FVec Ideal S4 .f32) :
    FVec Ideal S10000x4 .f32 :=
  addf (Host.dotGeneral dot_S10000x64_S64x4_S10000x4_1_0_0_1_n_n none
    (Host.sin (mulf (broadcastInDim S10000x64 ![] bcast_S_S10000x64 (constant (F := Ideal) S_ .f32 0x3C23D70A#32))
      (addf agg (broadcastInDim S10000x64 ![0, 1] bcast_S1x64_S10000x64_0_1 a12)))) a13)
    (broadcastInDim S10000x4 ![0, 1] bcast_S1x4_S10000x4_0_1 (broadcastInDim S1x4 ![1] bcast_S4_S1x4_1 a14))

set_option maxRecDepth 16384 in
set_option maxHeartbeats 4000000 in
/-- The reference's result is the composition of the stages. -/
theorem res_eq (m : (ℓ : Loc nD τ sig) → Buf (Elt Ideal) ℓ) (c : Dev nD) :
    Cert.ReferenceIdeal.Value.res_main_v111 (F := Ideal) m c =
      outA (aggA (dstA (m ((c.tc : Thread nD τ).loc main_arg1)))
        (msgA (h1A (h0A (inA (featsA
              (pjA (posA (m ((c.tc : Thread nD τ).loc main_arg2))) (wrapA (dstA (m ((c.tc : Thread nD τ).loc main_arg1)))))
              (pjA (posA (m ((c.tc : Thread nD τ).loc main_arg2))) (wrapA (srcA (m ((c.tc : Thread nD τ).loc main_arg1)))))))
            (m ((c.tc : Thread nD τ).loc main_arg6)) (m ((c.tc : Thread nD τ).loc main_arg7)))
            (m ((c.tc : Thread nD τ).loc main_arg8)) (m ((c.tc : Thread nD τ).loc main_arg9)))
          (m ((c.tc : Thread nD τ).loc main_arg10)) (m ((c.tc : Thread nD τ).loc main_arg11))
          (xjA (xcatA (xA (m ((c.tc : Thread nD τ).loc main_arg0)) (m ((c.tc : Thread nD τ).loc main_arg4))
              (m ((c.tc : Thread nD τ).loc main_arg5))) (posA (m ((c.tc : Thread nD τ).loc main_arg2))))
            (wrapA (srcA (m ((c.tc : Thread nD τ).loc main_arg1)))))))
        (m ((c.tc : Thread nD τ).loc main_arg12)) (m ((c.tc : Thread nD τ).loc main_arg13))
        (m ((c.tc : Thread nD τ).loc main_arg14)) := rfl

end Cert.Proof.Ref

end
-- ==== Proof.Reference.lean ====
/- The reference's result at an index, in the scalars of Spec.lean. -/
module

public import proofs.«01_k».proof.Proof.RefStages
public import proofs.«01_k».proof.Proof.Spec

@[expose] public section

noncomputable section

namespace Cert.Proof.Ref

open Cert.ReferenceIdeal Cert.ReferenceIdeal.Gen Idealize.ShloMosaic Idealize.ShloMosaic.TcCoe

/-- A node's features: its 64 decoded values, then its 3 coordinates. -/
theorem xcatA_apply (a0 : Arr2 10000 32) (a4 : Arr2 32 64) (a5 : Arr1 64) (a2 : Arr3 1 10000 3) (n : Fin 10000) (k : Fin 67) :
    xcatA (xA a0 a4 a5) (posA a2) (ix2 n k) = xcatS a0 a4 a5 a2 n k := by
  pointwise [xcatA, xA, posA, xcatS, xS]

/-- The word of pair `e` in row `r` of the edge list, or the loop's node. -/
def wordS (a1 : IVec ⟨3, ![1, 2, 160000]⟩ 32) (r : Fin 2) (e : Fin 170000) : BitVec 32 :=
  if h : e.val < 160000 then a1 (ix3 0 r ⟨e.val, h⟩) else BitVec.ofNat 32 (e.val - 160000)

/-- The list of sources holds the edge's source word; after the edges, each node's own number. -/
theorem srcA_apply (a1 : IVec ⟨3, ![1, 2, 160000]⟩ 32) (e : Fin 170000) : srcA a1 (ix1 e) = wordS a1 0 e := by
  pointwise [srcA, wordS]

/-- The list of targets holds the edge's target word; after the edges, each node's own number. -/
theorem dstA_apply (a1 : IVec ⟨3, ![1, 2, 160000]⟩ 32) (e : Fin 170000) : dstA a1 (ix1 e) = wordS a1 1 e := by
  pointwise [dstA, wordS]

/-- An index read as a row: a negative word counted from the end. -/
theorem wrapA_apply (v : IVec S170000 32) (e : Fin 170000) : wrapA v (ix2 e (0 : Fin 1)) = wrapWord (v (ix1 e)) := by
  pointwise [wrapA, wrapWord]

/-- The source's features, at an edge, are the row of the features that the edge's index names. -/
theorem xjA_apply (xc : FVec Ideal S10000x67 .f32) (i : IVec S170000x1 32) (e : Fin 170000) (k : Fin 67) :
    xjA xc i (ix2 e k) = xc (ix2 (clampRow (i (ix2 e (0 : Fin 1)))) k) := gather_rows _ xc i e k

/-- A position, at an edge, is the row of the positions that the edge's index names. -/
theorem pjA_apply (p : FVec Ideal S10000x3 .f32) (i : IVec S170000x1 32) (e : Fin 170000) (k : Fin 3) :
    pjA p i (ix2 e k) = p (ix2 (clampRow (i (ix2 e (0 : Fin 1)))) k) := gather_rows _ p i e k

/-- The positions are those of the only graph in the list. -/
theorem posA_apply (a2 : Arr3 1 10000 3) (n : Fin 10000) (k : Fin 3) : posA a2 (ix2 n k) = a2 (ix3 0 n k) := by
  pointwise [posA]

/-- The squared length of an edge's difference vector. -/
theorem sqA_apply (r : FVec Ideal S170000x3 .f32) (e : Fin 170000) : sqA r (ix1 e) = sqS fun t => r (ix2 e t) := by
  pointwise [sqA, sqS]

/-- Whether an edge has a positive length. -/
theorem maskA_apply (r : FVec Ideal S170000x3 .f32) (e : Fin 170000) : maskA r (ix1 e) = maskS fun t => r (ix2 e t) := by
  rw [maskS, ← sqA_apply]
  pointwise [maskA, kA]

/-- The length of an edge, zero where the mask is off. -/
theorem rhoA_apply (r : FVec Ideal S170000x3 .f32) (e : Fin 170000) : rhoA r (ix1 e) = rhoS fun t => r (ix2 e t) := by
  rw [rhoS, ← maskA_apply, ← sqA_apply]
  pointwise [rhoA, kA]

/-- The angle of an edge in the first two coordinates, zero where the mask is off. -/
theorem thetaA_apply (r : FVec Ideal S170000x3 .f32) (e : Fin 170000) : thetaA r (ix1 e) = thetaS fun t => r (ix2 e t) := by
  rw [thetaS, ← maskA_apply]
  pointwise [thetaA, kA]

/-- The angle of an edge towards the third coordinate, zero where the mask is off. -/
theorem phiA_apply (r : FVec Ideal S170000x3 .f32) (e : Fin 170000) : phiA r (ix1 e) = phiS fun t => r (ix2 e t) := by
  rw [phiS, ← maskA_apply, ← rhoA_apply]
  pointwise [phiA, kA]

/-- An edge's three features: its length and its two angles over pi. -/
theorem featsA_apply (pd ps : FVec Ideal S170000x3 .f32) (e : Fin 170000) (k : Fin 3) :
    featsA pd ps (ix2 e k) = featS (fun t => pd (ix2 e t) - ps (ix2 e t) : Fin 3 → EReal) k := by
  have h : (fun t => pd (ix2 e t) - ps (ix2 e t) : Fin 3 → EReal) = fun t => subf pd ps (ix2 e t) := rfl
  rw [featS, h, ← rhoA_apply, ← thetaA_apply, ← phiA_apply]
  pointwise [featsA]
  rfl

/-- The kernel network's first layer, at a channel, an edge and a unit. -/
theorem h0A_apply (f : FVec Ideal S170000x3 .f32) (a6 : Arr2 4 64) (a7 : Arr1 64) (c : Fin 64) (e : Fin 170000) (k : Fin 64) :
    h0A (inA f) a6 a7 (ix3 c e k) = h0S a6 a7 (fun t => f (ix2 e t)) c k := by
  pointwise [h0A, biasA, inA, h0S, chan]

/-- The kernel network's second layer, at a channel, an edge and a unit. -/
theorem h1A_apply (f : FVec Ideal S170000x3 .f32) (a6 : Arr2 4 64) (a7 : Arr1 64) (a8 : Arr2 64 64) (a9 : Arr1 64)
    (c : Fin 64) (e : Fin 170000) (k : Fin 64) :
    h1A (h0A (inA f) a6 a7) a8 a9 (ix3 c e k) = h1S a6 a7 a8 a9 (fun t => f (ix2 e t)) c k := by
  rw [h1S]
  simp only [← h0A_apply]
  pointwise [h1A, biasA]

/-- The message along an edge, at a channel: the third layer against the source's features. -/
theorem msgA_apply (f : FVec Ideal S170000x3 .f32) (a6 : Arr2 4 64) (a7 : Arr1 64) (a8 : Arr2 64 64) (a9 : Arr1 64)
    (a10 : Arr2 64 67) (a11 : Arr1 67) (xj : FVec Ideal S170000x67 .f32) (c : Fin 64) (e : Fin 170000) :
    msgA (h1A (h0A (inA f) a6 a7) a8 a9) a10 a11 xj (ix2 e c)
      = msgS a6 a7 a8 a9 a10 a11 (fun t => f (ix2 e t)) (fun t => xj (ix2 e t)) c := by
  rw [msgS]
  simp only [← h1A_apply]
  pointwise [msgA]

/-- The messages summed at their targets, at a node and a channel. -/
theorem aggA_apply (d : IVec S170000 32) (msg : FVec Ideal S170000x64 .f32) (n : Fin 10000) (c : Fin 64) :
    aggA d msg (ix2 n c) = (∑ e : Fin 170000, if (d (ix1 e)).toInt = n.val then msg (ix2 e c) else 0 : EReal) := by
  have hd : ∀ e : Fin 170000, broadcastInDim S170000x1 ![0] bcast_S170000_S170000x1_0 d (ix2 e (0 : Fin 1)) = d (ix1 e) := fun e => by
    pointwise
  have hz : broadcastInDim S10000x64 ![] bcast_S_S10000x64 (constant (F := Ideal) S_ .f32 0x00000000#32) (ix2 n c) = (0 : EReal) := by
    pointwise
  refine (scatter_rows _ _ _ msg n c).trans ?_
  rw [hz, zero_add]
  simp only [hd]

/-- The last layer at a node and an output, from the node's summed messages. -/
theorem outA_apply (agg : Arr2 10000 64) (a12 : Arr2 1 64) (a13 : Arr2 64 4) (a14 : Arr1 4) (n : Fin 10000) (j : Fin 4) :
    outA agg a12 a13 a14 (ix2 n j) = outS a12 a13 a14 (fun c => agg (ix2 n c)) j := by
  pointwise [outA, outS]

/-- The messages that the reference sums at node `n` in channel `c`. -/
def aggR (a0 : Arr2 10000 32) (a1 : IVec ⟨3, ![1, 2, 160000]⟩ 32) (a2 : Arr3 1 10000 3) (a4 : Arr2 32 64) (a5 : Arr1 64)
    (a6 : Arr2 4 64) (a7 : Arr1 64) (a8 : Arr2 64 64) (a9 : Arr1 64) (a10 : Arr2 64 67) (a11 : Arr1 67)
    (n : Fin 10000) (c : Fin 64) : EReal :=
  ∑ e : Fin 170000, if (wordS a1 1 e).toInt = n.val then
    msgS a6 a7 a8 a9 a10 a11
      (featS fun t => a2 (ix3 0 (wrapRow (wordS a1 1 e)) t) - a2 (ix3 0 (wrapRow (wordS a1 0 e)) t))
      (fun t => xcatS a0 a4 a5 a2 (wrapRow (wordS a1 0 e)) t) c else 0

/-- The stages' composition at node `n` and output `j`. -/
theorem stages_apply (a0 : Arr2 10000 32) (a1 : IVec ⟨3, ![1, 2, 160000]⟩ 32) (a2 : Arr3 1 10000 3) (a4 : Arr2 32 64) (a5 : Arr1 64)
    (a6 : Arr2 4 64) (a7 : Arr1 64) (a8 : Arr2 64 64) (a9 : Arr1 64) (a10 : Arr2 64 67) (a11 : Arr1 67)
    (a12 : Arr2 1 64) (a13 : Arr2 64 4) (a14 : Arr1 4) (n : Fin 10000) (j : Fin 4) :
    outA (aggA (dstA a1) (msgA (h1A (h0A (inA (featsA (pjA (posA a2) (wrapA (dstA a1))) (pjA (posA a2) (wrapA (srcA a1))))) a6 a7)
        a8 a9) a10 a11 (xjA (xcatA (xA a0 a4 a5) (posA a2)) (wrapA (srcA a1))))) a12 a13 a14 (ix2 n j)
      = outS a12 a13 a14 (aggR a0 a1 a2 a4 a5 a6 a7 a8 a9 a10 a11 n) j := by
  rw [outA_apply]
  refine congrArg (fun g => outS a12 a13 a14 g j) (funext fun c => ?_)
  rw [aggA_apply, aggR]
  refine Finset.sum_congr rfl fun e _ => ?_
  rw [dstA_apply, msgA_apply]
  simp only [featsA_apply, pjA_apply, xjA_apply, posA_apply, wrapA_apply, xcatA_apply, dstA_apply, srcA_apply, wrapRow]

/-- The reference's result at node `n` and output `j`. -/
theorem res_apply (m : (ℓ : Loc nD τ sig) → Buf (Elt Ideal) ℓ) (d : Dev nD) (n : Fin 10000) (j : Fin 4) :
    Cert.ReferenceIdeal.Value.res_main_v111 (F := Ideal) m d (ix2 n j : S10000x4.Idx) =
      outS (m ((d.tc : Thread nD τ).loc main_arg12)) (m ((d.tc : Thread nD τ).loc main_arg13)) (m ((d.tc : Thread nD τ).loc main_arg14))
        (aggR (m ((d.tc : Thread nD τ).loc main_arg0)) (m ((d.tc : Thread nD τ).loc main_arg1)) (m ((d.tc : Thread nD τ).loc main_arg2))
          (m ((d.tc : Thread nD τ).loc main_arg4)) (m ((d.tc : Thread nD τ).loc main_arg5)) (m ((d.tc : Thread nD τ).loc main_arg6))
          (m ((d.tc : Thread nD τ).loc main_arg7)) (m ((d.tc : Thread nD τ).loc main_arg8)) (m ((d.tc : Thread nD τ).loc main_arg9))
          (m ((d.tc : Thread nD τ).loc main_arg10)) (m ((d.tc : Thread nD τ).loc main_arg11)) n) j := by
  rw [res_eq]
  exact stages_apply _ _ _ _ _ _ _ _ _ _ _ _ _ _ n j

end Cert.Proof.Ref

end
-- ==== Proof.Equation.lean ====
/- The kernel's result is the reference's, where the arguments that reach a sine or a difference are real. -/
module

public import proofs.«01_k».proof.Proof.Message
public import proofs.«01_k».proof.Proof.Reference

@[expose] public section

noncomputable section

namespace Cert.Proof

open Idealize.ShloMosaic
open Cert.Proof.Ref (wordS aggR)

/-- A node's number, as a word, names its node. -/
theorem toInt_node (i : Fin 10000) : (BitVec.ofNat 32 i.val).toInt = (i.val : ℤ) := by
  rw [BitVec.toInt_eq_toNat_cond, BitVec.toNat_ofNat, Nat.mod_eq_of_lt (by omega), if_pos (by omega)]

/-- It is not counted from the end. -/
theorem wrapRow_node (i : Fin 10000) : wrapRow (BitVec.ofNat 32 i.val) = i := by
  have h : ¬ (BitVec.ofNat 32 i.val).toInt < (0#32 : BitVec 32).toInt := by
    rw [toInt_node]; simp
  have hw : wrapWord (BitVec.ofNat 32 i.val) = BitVec.ofNat 32 i.val := by
    unfold wrapWord Scalar.select IntOp.cmpi
    simp only [BitVec.slt, decide_eq_false h]
    rfl
  refine Fin.ext ?_
  rw [wrapRow, hw, clampRow]
  show min (BitVec.ofNat 32 i.val).toInt.toNat 9999 = i.val
  rw [toInt_node]
  omega

section

variable {a0 : Arr2 10000 32} (a1 : Words) {a2 : Arr3 1 10000 3} {a4 : Arr2 32 64} {a5 : Arr1 64} {a6 : Arr2 4 64} {a7 : Arr1 64}
  {a8 : Arr2 64 64} {a9 : Arr1 64} {a10 : Arr2 64 67} (a11 : Arr1 67)
  (g0 : ∀ i, IsReal (a0 i)) (g2 : ∀ i, IsReal (a2 i)) (g4 : ∀ i, IsReal (a4 i)) (g5 : ∀ i, IsReal (a5 i)) (h6 : ∀ i, IsReal (a6 i))
  (h7 : ∀ i, IsReal (a7 i)) (h8 : ∀ i, IsReal (a8 i)) (h9 : ∀ i, IsReal (a9 i)) (g10 : ∀ i, IsReal (a10 i))

include g0 g2 g4 g5 h6 h7 h8 h9 g10

/-- An edge's message is the reference's. -/
theorem edge_eq (e : Fin 160000) (c : Fin 64) :
    msgArr a0 a1 a2 a4 a5 a6 a7 a8 a9 a10 a11 (ix2 e c)
      = msgS a6 a7 a8 a9 a10 a11
          (featS fun t => a2 (ix3 0 (wrapRow (a1 (ix3 0 1 e))) t) - a2 (ix3 0 (wrapRow (a1 (ix3 0 0 e))) t))
          (fun t => xcatS a0 a4 a5 a2 (wrapRow (a1 (ix3 0 0 e))) t) c := by
  have hf : ∀ t, IsReal (featS (fun t => a2 (ix3 0 (wrapRow (a1 (ix3 0 1 e))) t) - a2 (ix3 0 (wrapRow (a1 (ix3 0 0 e))) t)) t) :=
    featS_real fun t => (g2 _).sub (g2 _)
  rw [msgS_eq h6 h7 h8 h9 hf a11 g0 g2 g4 g5 g10]
  exact eK_eq h6 h7 h8 h9 hf (featArr a1 a2) (atSrc a1 (zArr a0 a2 a4 a5 a10)) (atSrc a1 (sArr a0 a2 a4 a5 a11)) e (fun _ => rfl) c

/-- A loop's message is the reference's. -/
theorem loop_eq (n : Fin 10000) (c : Fin 64) :
    ∑ k, zArr a0 a2 a4 a5 a10 (ix2 n k) * selfArr a6 a7 a8 a9 (ix2 k c) + sArr a0 a2 a4 a5 a11 (ix2 n 0)
      = msgS a6 a7 a8 a9 a10 a11 (featS fun t => a2 (ix3 0 n t) - a2 (ix3 0 n t)) (fun t => xcatS a0 a4 a5 a2 n t) c := by
  have hz : (fun t => a2 (ix3 0 n t) - a2 (ix3 0 n t) : Fin 3 → EReal) = fun _ => 0 := funext fun t => by
    obtain ⟨r, hr⟩ := g2 (ix3 0 n t)
    rw [hr, ← EReal.coe_sub, sub_self]
    rfl
  rw [hz, show featS (fun _ => 0) = fun _ => 0 from funext featS_zero, msgS_eq h6 h7 h8 h9 (fun _ => .zero) a11 g0 g2 g4 g5 g10]
  refine congrArg (· + sArr a0 a2 a4 a5 a11 (ix2 n 0)) (Finset.sum_congr rfl fun k _ => ?_)
  rw [mul_comm, ← selfK_eq h6 h7 h8 h9]
  rfl

/-- The messages that the kernel sums at a node, its loop's among them, are those that the reference sums. -/
theorem agg_eq (n : Fin 10000) (c : Fin 64) :
    aggArr a1 (msgArr a0 a1 a2 a4 a5 a6 a7 a8 a9 a10 a11) (ix2 n c)
        + (∑ k, zArr a0 a2 a4 a5 a10 (ix2 n k) * selfArr a6 a7 a8 a9 (ix2 k c) + sArr a0 a2 a4 a5 a11 (ix2 n 0))
      = aggR a0 a1 a2 a4 a5 a6 a7 a8 a9 a10 a11 n c := by
  rw [loop_eq a11 g0 g2 g4 g5 h6 h7 h8 h9 g10, aggR, Fin.sum_univ_two_halves 160000 10000 rfl]
  have he : ∀ (r : Fin 2) (e : Fin 160000), wordS a1 r ⟨e.val, by omega⟩ = a1 (ix3 0 r e) := fun r e => dif_pos e.isLt
  have hl : ∀ (r : Fin 2) (i : Fin 10000), wordS a1 r ⟨160000 + i.val, by omega⟩ = BitVec.ofNat 32 i.val := fun r i => by
    rw [wordS, dif_neg (by simp)]
    simp
  simp only [he, hl, toInt_node, wrapRow_node]
  refine congr (congrArg HAdd.hAdd ?_) ?_
  · show aggK (wordArr a1 1) (msgArr a0 a1 a2 a4 a5 a6 a7 a8 a9 a10 a11) n c = _
    unfold aggK
    refine Finset.sum_congr rfl fun e _ => ?_
    rw [edge_eq a1 a11 g0 g2 g4 g5 h6 h7 h8 h9 g10]
    rfl
  · rw [Finset.sum_eq_single n]
    · rw [if_pos rfl]
    · intro i _ hi
      rw [if_neg]
      intro h
      exact hi (Fin.ext (by exact_mod_cast h))
    · intro h
      exact absurd (Finset.mem_univ n) h

/-- The kernel's result is the reference's. -/
theorem out_eq (a12 : Arr2 1 64) (a13 : Arr2 64 4) (a14 : Arr1 4) (n : Fin 10000) (j : Fin 4) :
    outK a0 a1 a2 a4 a5 a6 a7 a8 a9 a10 a11 a12 a13 a14 n j
      = outS a12 a13 a14 (aggR a0 a1 a2 a4 a5 a6 a7 a8 a9 a10 a11 n) j := by
  unfold outK oK outS
  refine congrArg₂ (· + ·) (Finset.sum_congr rfl fun c _ => ?_) rfl
  rw [← agg_eq a1 a11 g0 g2 g4 g5 h6 h7 h8 h9 g10, ← add_assoc]

end

end Cert.Proof

end
-- ==== Proof.Finite.lean ====
/- What the precondition says of the ideal arguments: their elements are real numbers. -/
module

public import proofs.«01_k».proof.Defs
public import proofs.«01_k».proof.Proof.Reals

@[expose] public section

noncomputable section

namespace Cert.Proof

open Idealize.ShloMosaic

/-- The shape relations the precondition's operations take. -/
theorem finiteFacts : Cert.Pre_finite.Facts where
  bcast_S_S10000x32 := by decide
  bcast_S_S1x10000x3 := by decide
  bcast_S_S32x64 := by decide
  bcast_S_S64 := by decide
  bcast_S_S4x64 := by decide
  bcast_S_S64x64 := by decide
  bcast_S_S64x67 := by decide

/-- The float word of positive infinity reads as the top of the extended reals. -/
theorem inf_word : FloatOps.ofBits (F := Ideal) .f32 0x7F800000#32 = (⊤ : EReal) := by
  show Ideal.ofBits .f32 0x7F800000#32 = _
  simp [Ideal.ofBits, Ideal.ieee]

/-- An extended real whose size is below the top is real. -/
theorem isReal_of_abs_lt (x : EReal) (h : Ideal.cmp .olt (max x (-x)) ⊤ = 1#1) : IsReal x := by
  induction x with
  | bot => simp [Ideal.cmp] at h
  | coe r => exact ⟨r, rfl⟩
  | top => simp [Ideal.cmp] at h

/-- An array whose sizes all compare below infinity holds real numbers. -/
theorem real_of_finite {S : Shape} (h : Cert.Pre_finite.S_.BroadcastsInDim S (![] : Fin 0 → Fin S.rank)) (a : FVec Ideal S .f32)
    (e : cmpf .olt (Host.absf a) (broadcastInDim S ![] h (constant Cert.Pre_finite.S_ .f32 0x7F800000#32)) = fun _ => 1#1)
    (i : S.Idx) : IsReal (a i) := by
  have hi : Ideal.cmp .olt (max (a i) (-(a i))) (FloatOps.ofBits (F := Ideal) .f32 0x7F800000#32) = 1#1 := congrFun e i
  rw [inf_word] at hi
  exact isReal_of_abs_lt _ hi

/-- Under the precondition the elements of the nine arrays it names are real numbers. -/
theorem real_args (m : (ℓ : Loc Cert.KernelIdeal.nD Cert.KernelIdeal.τ Cert.KernelIdeal.sig) → Buf (Elt Ideal) ℓ)
    (hp : Cert.Pre_KernelIdeal_finite (hPre_finite := finiteFacts) m) (c : Dev Cert.KernelIdeal.nD) :
    (∀ i : Cert.KernelIdeal.S10000x32.Idx, IsReal (m ((c.tc : Thread Cert.KernelIdeal.nD Cert.KernelIdeal.τ).loc Cert.KernelIdeal.main_arg0) i))
    ∧ (∀ i : Cert.KernelIdeal.S1x10000x3.Idx, IsReal (m ((c.tc : Thread Cert.KernelIdeal.nD Cert.KernelIdeal.τ).loc Cert.KernelIdeal.main_arg2) i))
    ∧ (∀ i : Cert.KernelIdeal.S32x64.Idx, IsReal (m ((c.tc : Thread Cert.KernelIdeal.nD Cert.KernelIdeal.τ).loc Cert.KernelIdeal.main_arg4) i))
    ∧ (∀ i : Cert.KernelIdeal.S64.Idx, IsReal (m ((c.tc : Thread Cert.KernelIdeal.nD Cert.KernelIdeal.τ).loc Cert.KernelIdeal.main_arg5) i))
    ∧ (∀ i : Cert.KernelIdeal.S4x64.Idx, IsReal (m ((c.tc : Thread Cert.KernelIdeal.nD Cert.KernelIdeal.τ).loc Cert.KernelIdeal.main_arg6) i))
    ∧ (∀ i : Cert.KernelIdeal.S64.Idx, IsReal (m ((c.tc : Thread Cert.KernelIdeal.nD Cert.KernelIdeal.τ).loc Cert.KernelIdeal.main_arg7) i))
    ∧ (∀ i : Cert.KernelIdeal.S64x64.Idx, IsReal (m ((c.tc : Thread Cert.KernelIdeal.nD Cert.KernelIdeal.τ).loc Cert.KernelIdeal.main_arg8) i))
    ∧ (∀ i : Cert.KernelIdeal.S64.Idx, IsReal (m ((c.tc : Thread Cert.KernelIdeal.nD Cert.KernelIdeal.τ).loc Cert.KernelIdeal.main_arg9) i))
    ∧ (∀ i : Cert.KernelIdeal.S64x67.Idx, IsReal (m ((c.tc : Thread Cert.KernelIdeal.nD Cert.KernelIdeal.τ).loc Cert.KernelIdeal.main_arg10) i)) := by
  haveI := finiteFacts
  obtain ⟨p0, p2, p4, p5, p6, p7, p8, p9, p10⟩ := hp c
  exact ⟨real_of_finite finiteFacts.bcast_S_S10000x32 _ p0, real_of_finite finiteFacts.bcast_S_S1x10000x3 _ p2, real_of_finite finiteFacts.bcast_S_S32x64 _ p4, real_of_finite finiteFacts.bcast_S_S64 _ p5, real_of_finite finiteFacts.bcast_S_S4x64 _ p6, real_of_finite finiteFacts.bcast_S_S64 _ p7, real_of_finite finiteFacts.bcast_S_S64x64 _ p8, real_of_finite finiteFacts.bcast_S_S64 _ p9, real_of_finite finiteFacts.bcast_S_S64x67 _ p10⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KValue
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.SL.Sem

/-- The reference ends with its arguments unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Memories of the two programs that agree on the arguments, the kernel's finite: the two results are one array. -/
theorem results_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_finite (hPre_finite := finiteFacts) m) (c : Dev Cert.KernelIdeal.nD)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v111 (F := Ideal) m' c = Cert.KernelIdeal.Gen.W26 m g c (Proc.devRef Proc.tc Cert.KernelIdeal.main_v130) := by
  obtain ⟨p0, p2, p4, p5, p6, p7, p8, p9, p10⟩ := real_args m hp c
  obtain ⟨e0, e1, e2, _, e4, e5, e6, e7, e8, e9, e10, e11, e12, e13, e14⟩ := ha
  refine Ker.ext2 _ _ fun n j => ?_
  refine (Ref.res_apply m' c n j).trans ?_
  rw [e0, e1, e2, e4, e5, e6, e7, e8, e9, e10, e11, e12, e13, e14]
  refine Eq.trans ?_ (Ker.out26 m g c n j).symm
  exact (out_eq _ _ p0 p2 p4 p5 p6 p7 p8 p9 p10 _ _ _ n j).symm

/-- On finite arguments the idealized kernel and the idealized reference end with one result, each its arguments unchanged. -/
theorem value : Cert.algebraic_KernelIdeal_ReferenceIdeal_pre_finite (hPre_finite := finiteFacts) := fun m g m' g' hp ha =>
  ⟨fun c => Cert.KernelIdeal.Gen.W26 m g c (Proc.devRef Proc.tc Cert.KernelIdeal.main_v130), Ker.run m g,
    (θ_run Cert.ReferenceIdeal.defs _ _).mono (fun _ h c => ⟨(h c).1.trans (results_eq m g m' hp c (ha c)), (h c).2⟩)
      (Cert.ReferenceIdeal.Value.run (F := Ideal) m' g')⟩

/-- `Cert.Claim`: the programs' facts and the claims, in the order of Defs.lean. -/
theorem claim : Cert.Claim := ⟨Cert.Kernel.Gen.facts, Cert.KernelIdeal.Gen.facts, Cert.ReferenceIdeal.Gen.facts, finiteFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, value⟩

end Cert.Proof

end
